-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_is_finite [hPre_gain_is_finite : Cert.Pre_gain_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_is_finite [hPre_gain_is_finite : Cert.Pre_gain_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_is_finite [hKernelIdeal : Cert.KernelIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_is_finite [hReferenceIdeal : Cert.ReferenceIdeal.Facts] [hPre_gain_is_finite : Cert.Pre_gain_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gain_is_finite [hKernelIdeal : Cert.KernelIdeal.Facts] [hReferenceIdeal : Cert.ReferenceIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_is_finite : Cert.Pre_gain_is_finite.Facts),
    quiescent_Kernel (hKernel := hKernel)
    ∧ quiescent_KernelIdeal (hKernelIdeal := hKernelIdeal)
    ∧ quiescent_KernelIdeal_pre_gain_is_finite (hKernelIdeal := hKernelIdeal) (hPre_gain_is_finite := hPre_gain_is_finite)
    ∧ quiescent_ReferenceIdeal (hReferenceIdeal := hReferenceIdeal)
    ∧ quiescent_ReferenceIdeal_pre_gain_is_finite (hReferenceIdeal := hReferenceIdeal) (hPre_gain_is_finite := hPre_gain_is_finite)
    ∧ preserves_Kernel_KernelIdeal
    ∧ algebraic_KernelIdeal_ReferenceIdeal_pre_gain_is_finite (hKernelIdeal := hKernelIdeal) (hReferenceIdeal := hReferenceIdeal) (hPre_gain_is_finite := hPre_gain_is_finite)
-- ==== Pre_gain_is_finite.lean ====
abbrev S2x8192x4096 : Shape := ⟨3, ![2, 8192, 4096]⟩
abbrev S4096 : Shape := ⟨1, ![4096]⟩
abbrev S4096x1536 : Shape := ⟨2, ![4096, 1536]⟩
abbrev S1536 : Shape := ⟨1, ![1536]⟩
abbrev S2x8192 : Shape := ⟨2, ![2, 8192]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S2x8192x4096 .bf16) (main_arg1 : FVec F S4096 .f32) (main_arg2 : FVec F S4096x1536 .fp8e4m3) (main_arg3 : FVec F S1536 .f32) (main_arg4 : IVec S2x8192 32) : IVec S4096 1 :=
  let main_v0 : FVec F S4096 .f32 := Host.absf main_arg1
  let main_cst : FVec F S_ .f32 := constant S_ .f32 0x7F7FFFFF#32
  let main_v1 : FVec F S4096 .f32 := broadcastInDim S4096 ![] bcast_S_S4096 main_cst
  let main_v2 : IVec S4096 1 := cmpf .ole main_v0 main_v1
  main_v2
-- ==== Kernel.lean ====
abbrev S2x8192x4096 : Shape := ⟨3, ![2, 8192, 4096]⟩
abbrev S4096 : Shape := ⟨1, ![4096]⟩
abbrev S4096x1536 : Shape := ⟨2, ![4096, 1536]⟩
abbrev S1536 : Shape := ⟨1, ![1536]⟩
abbrev S2x8192 : Shape := ⟨2, ![2, 8192]⟩
abbrev S128 : Shape := ⟨1, ![128]⟩
abbrev S1x128 : Shape := ⟨2, ![1, 128]⟩
abbrev S16384x4096 : Shape := ⟨2, ![16384, 4096]⟩
abbrev S1x4096 : Shape := ⟨2, ![1, 4096]⟩
abbrev S1x1536 : Shape := ⟨2, ![1, 1536]⟩
abbrev S16384x1 : Shape := ⟨2, ![16384, 1]⟩
abbrev S16384x8x128 : Shape := ⟨3, ![16384, 8, 128]⟩
abbrev S16384x2x128 : Shape := ⟨3, ![16384, 2, 128]⟩
abbrev S256x4096 : Shape := ⟨2, ![256, 4096]⟩
abbrev S256x1 : Shape := ⟨2, ![256, 1]⟩
abbrev S256x8x128 : Shape := ⟨3, ![256, 8, 128]⟩
abbrev S256x2x128 : Shape := ⟨3, ![256, 2, 128]⟩
abbrev S32x4096 : Shape := ⟨2, ![32, 4096]⟩
abbrev S32 : Shape := ⟨1, ![32]⟩
abbrev S32x1 : Shape := ⟨2, ![32, 1]⟩
abbrev S256x1536 : Shape := ⟨2, ![256, 1536]⟩
abbrev S256x128 : Shape := ⟨2, ![256, 128]⟩
abbrev S256x1x128 : Shape := ⟨3, ![256, 1, 128]⟩

abbrev nBuf : Space → Nat
  | .hbm => 16
  | .vmem => 19
  | .smem => 0
  | _ => 0

abbrev bufTy : (tb : Table) → Fin (tcTables nBuf tb) → BufTy
  | .hbm, ⟨0, _⟩ => ⟨S2x8192x4096, .bf16⟩
  | .hbm, ⟨1, _⟩ => ⟨S4096, .f32⟩
  | .hbm, ⟨2, _⟩ => ⟨S4096x1536, .fp8e4m3⟩
  | .hbm, ⟨3, _⟩ => ⟨S1536, .f32⟩
  | .hbm, ⟨4, _⟩ => ⟨S2x8192, .i32⟩
  | .hbm, ⟨5, _⟩ => ⟨S128, .f32⟩
  | .hbm, ⟨6, _⟩ => ⟨S1x128, .f32⟩
  | .hbm, ⟨7, _⟩ => ⟨S16384x4096, .bf16⟩
  | .hbm, ⟨8, _⟩ => ⟨S1x4096, .f32⟩
  | .hbm, ⟨9, _⟩ => ⟨S1x1536, .f32⟩
  | .hbm, ⟨10, _⟩ => ⟨S16384x1, .i32⟩
  | .hbm, ⟨11, _⟩ => ⟨S16384x8x128, .bf16⟩
  | .hbm, ⟨12, _⟩ => ⟨S16384x2x128, .bf16⟩
  | .hbm, ⟨13, _⟩ => ⟨S16384x2x128, .bf16⟩
  | .hbm, ⟨14, _⟩ => ⟨S16384x4096, .fp8e4m3⟩
  | .hbm, ⟨15, _⟩ => ⟨S16384x1, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x1536, .fp8e4m3⟩
  | .local _ .vmem, ⟨4, _⟩ => ⟨S1x1536, .f32⟩
  | .local _ .vmem, ⟨5, _⟩ => ⟨S256x1, .i32⟩
  | .local _ .vmem, ⟨6, _⟩ => ⟨S256x1, .i32⟩
  | .local _ .vmem, ⟨7, _⟩ => ⟨S1x128, .f32⟩
  | .local _ .vmem, ⟨8, _⟩ => ⟨S256x8x128, .bf16⟩
  | .local _ .vmem, ⟨9, _⟩ => ⟨S256x8x128, .bf16⟩
  | .local _ .vmem, ⟨10, _⟩ => ⟨S256x2x128, .bf16⟩
  | .local _ .vmem, ⟨11, _⟩ => ⟨S256x2x128, .bf16⟩
  | .local _ .vmem, ⟨12, _⟩ => ⟨S256x2x128, .bf16⟩
  | .local _ .vmem, ⟨13, _⟩ => ⟨S256x2x128, .bf16⟩
  | .local _ .vmem, ⟨14, _⟩ => ⟨S256x4096, .fp8e4m3⟩
  | .local _ .vmem, ⟨15, _⟩ => ⟨S256x4096, .fp8e4m3⟩
  | .local _ .vmem, ⟨16, _⟩ => ⟨S256x1, .f32⟩
  | .local _ .vmem, ⟨17, _⟩ => ⟨S256x1, .f32⟩
  | .local _ .vmem, ⟨18, _⟩ => ⟨S256x4096, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x8192x4096 : Shape := ⟨3, ![2, 8192, 4096]⟩
abbrev S4096 : Shape := ⟨1, ![4096]⟩
abbrev S4096x1536 : Shape := ⟨2, ![4096, 1536]⟩
abbrev S1536 : Shape := ⟨1, ![1536]⟩
abbrev S2x8192 : Shape := ⟨2, ![2, 8192]⟩
abbrev S64 : Shape := ⟨1, ![64]⟩
abbrev S1x64 : Shape := ⟨2, ![1, 64]⟩
abbrev S16384x4096 : Shape := ⟨2, ![16384, 4096]⟩
abbrev S1x4096 : Shape := ⟨2, ![1, 4096]⟩
abbrev S1x1536 : Shape := ⟨2, ![1, 1536]⟩
abbrev S16384x1 : Shape := ⟨2, ![16384, 1]⟩
abbrev S16384x8x128 : Shape := ⟨3, ![16384, 8, 128]⟩
abbrev S16384x2x128 : Shape := ⟨3, ![16384, 2, 128]⟩
abbrev S16384 : Shape := ⟨1, ![16384]⟩
abbrev S16384x1536 : Shape := ⟨2, ![16384, 1536]⟩
abbrev S16384x1024 : Shape := ⟨2, ![16384, 1024]⟩
abbrev S16384x256 : Shape := ⟨2, ![16384, 256]⟩
abbrev S16384x64 : Shape := ⟨2, ![16384, 64]⟩
abbrev S16384x1x64 : Shape := ⟨3, ![16384, 1, 64]⟩
abbrev S16384x8x64 : Shape := ⟨3, ![16384, 8, 64]⟩
abbrev S16384x2x64 : Shape := ⟨3, ![16384, 2, 64]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x4096, .bf16⟩
  | .hbm, ⟨1, _⟩ => ⟨S4096, .f32⟩
  | .hbm, ⟨2, _⟩ => ⟨S4096x1536, .fp8e4m3⟩
  | .hbm, ⟨3, _⟩ => ⟨S1536, .f32⟩
  | .hbm, ⟨4, _⟩ => ⟨S2x8192, .i32⟩
  | .hbm, ⟨5, _⟩ => ⟨S64, .f32⟩
  | .hbm, ⟨6, _⟩ => ⟨S1x64, .f32⟩
  | .hbm, ⟨7, _⟩ => ⟨S16384x4096, .bf16⟩
  | .hbm, ⟨8, _⟩ => ⟨S1x4096, .f32⟩
  | .hbm, ⟨9, _⟩ => ⟨S1x1536, .f32⟩
  | .hbm, ⟨10, _⟩ => ⟨S16384x1, .i32⟩
  | .hbm, ⟨11, _⟩ => ⟨S16384x8x128, .bf16⟩
  | .hbm, ⟨12, _⟩ => ⟨S16384x2x128, .bf16⟩
  | .hbm, ⟨13, _⟩ => ⟨S16384x2x128, .bf16⟩
  | .hbm, ⟨14, _⟩ => ⟨S16384x4096, .fp8e4m3⟩
  | .hbm, ⟨15, _⟩ => ⟨S16384x1, .f32⟩
  | .local _ .vmem, ⟨0, _⟩ => ⟨S16384x4096, .bf16⟩
  | .local _ .vmem, ⟨1, _⟩ => ⟨S1x4096, .f32⟩
  | .local _ .vmem, ⟨2, _⟩ => ⟨S4096x1536, .fp8e4m3⟩
  | .local _ .vmem, ⟨3, _⟩ => ⟨S1x1536, .f32⟩
  | .local _ .vmem, ⟨4, _⟩ => ⟨S16384x1, .i32⟩
  | .local _ .vmem, ⟨5, _⟩ => ⟨S1x64, .f32⟩
  | .local _ .vmem, ⟨6, _⟩ => ⟨S16384x8x128, .bf16⟩
  | .local _ .vmem, ⟨7, _⟩ => ⟨S16384x2x128, .bf16⟩
  | .local _ .vmem, ⟨8, _⟩ => ⟨S16384x2x128, .bf16⟩
  | .local _ .vmem, ⟨9, _⟩ => ⟨S16384x4096, .fp8e4m3⟩
  | .local _ .vmem, ⟨10, _⟩ => ⟨S16384x1, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16384x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x2x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Block.lean ====
/-
  What the kernel body computes at one grid point, as plain functions of the blocks its input windows hold.

  The body works on 256 token rows, in eight groups of 32: it normalises the rows (reciprocal root mean square times
  the gain), keeps the normalised rows in a scratch buffer, takes each row's largest absolute value, reads off a power of two
  as the row's scale, stores the scaled and clipped rows, multiplies the stored rows with the weights, and stores the
  twelve heads, the first ten of them rotated.  Everything here is stated for any element types `F`.
-/
module

public import proofs.«01_k».proof.Proof.Gen.KernelIdeal.Frame
public import proofs.«01_k».proof.Proof.Gen.KernelIdeal.Skeleton
public import Idealize.ShloMosaic.Lib.Tactic
public import Idealize.ShloMosaic.Lib.Pipeline.FrameBody
public import Idealize.ShloMosaic.Lib.Pipeline.Value
public import Idealize.ShloMosaic.Lib.Pipeline.ValueKit

@[expose] public section

set_option maxRecDepth 16384

noncomputable section

namespace Cert.KernelIdeal.Body

open Cert.KernelIdeal Cert.KernelIdeal.Gen
open Idealize.ShloMosaic

variable {F : FTy → Type} [FloatOps F]

/-- Thirty-two consecutive rows of a 256-row block, from row `o`. -/
abbrev rowRect (o : Nat) (h : ∀ a, (![o, 0] : Fin 2 → Nat) a + S32x4096.size a ≤ S256x4096.size a) : Rect S256x4096 :=
  Rect.unit (s := S256x4096) ![o, 0] S32x4096.size h

/-- Two consecutive heads of the query block, from head `o`. -/
abbrev headRect (o : Nat) (h : ∀ a, (![0, o, 0] : Fin 3 → Nat) a + S256x2x128.size a ≤ S256x8x128.size a) : Rect S256x8x128 :=
  Rect.unit (s := S256x8x128) ![0, o, 0] S256x2x128.size h

/-! ## The normalised rows -/

/-- The gain row as the body uses it. -/
def gainRow (x1 : Vec F S1x4096 .f32) : FVec F S1x4096 .f32 :=
  k0_pay1 (View.ld x1 (Rect.unit (s := S1x4096) ![0, 0] S1x4096.size inb_S1x4096_S1x4096_0_0))

/-- Each row's reciprocal root mean square. -/
def recipRms (x0 : Vec F S256x4096 .bf16) : FVec F S256x1 .f32 :=
  k0_pay8 (k0_pay2 (View.ld x0 (rowRect 0 inb_S256x4096_S32x4096_0_0))) (k0_pay3 (View.ld x0 (rowRect 32 inb_S256x4096_S32x4096_32_0))) (k0_pay4 (View.ld x0 (rowRect 64 inb_S256x4096_S32x4096_64_0))) (k0_pay5 (View.ld x0 (rowRect 96 inb_S256x4096_S32x4096_96_0))) (k0_pay6 (View.ld x0 (rowRect 128 inb_S256x4096_S32x4096_128_0))) (k0_pay7 (View.ld x0 (rowRect 160 inb_S256x4096_S32x4096_160_0)))
    (View.ld x0 (rowRect 192 inb_S256x4096_S32x4096_192_0)) (View.ld x0 (rowRect 224 inb_S256x4096_S32x4096_224_0))

/-- The 32 normalised rows of a group, from the group's input rows, the block's reciprocals and the gain row. -/
def normRows (g : FVec F S1x4096 .f32) (r : FVec F S256x1 .f32) (o : Nat) (hs : S256x1.Slices ![o, 0] S32x1)
    (xb : Vec F S32x4096 .bf16) : FVec F S32x4096 .f32 :=
  mulf (mulf (extf .f32 (shapeCast S32x4096 xb shapeCasts_S32x4096_S32x4096) bitsLt_bf16_f32)
    (broadcastTo S32x4096 (extractStridedSlice S32x1 ![o, 0] r hs) broadcasts_S32x1_S32x4096))
    (broadcastTo S32x4096 g broadcasts_S1x4096_S32x4096)

/-- A group's normalised rows, from the input blocks. -/
def group (x0 : Vec F S256x4096 .bf16) (x1 : Vec F S1x4096 .f32) (o : Nat) (hs : S256x1.Slices ![o, 0] S32x1)
    (h : ∀ a, (![o, 0] : Fin 2 → Nat) a + S32x4096.size a ≤ S256x4096.size a) : FVec F S32x4096 .f32 :=
  normRows (gainRow x1) (recipRms x0) o hs (View.ld x0 (rowRect o h))

/-- A group's normalised rows as a piece of the scratch buffer. -/
def groupPiece (x0 : Vec F S256x4096 .bf16) (x1 : Vec F S1x4096 .f32) (o : Nat) (hs : S256x1.Slices ![o, 0] S32x1)
    (h : ∀ a, (![o, 0] : Fin 2 → Nat) a + S32x4096.size a ≤ S256x4096.size a) : View.Piece (Elt F) S256x4096 .f32 :=
  ⟨rowRect o h, shapeCast S32x4096 (group x0 x1 o hs h) shapeCasts_S32x4096_S32x4096⟩

/-- The scratch buffer after the eight groups, the last store first. -/
def normPieces (x0 : Vec F S256x4096 .bf16) (x1 : Vec F S1x4096 .f32) : List (View.Piece (Elt F) S256x4096 .f32) :=
  [groupPiece x0 x1 224 slices_S256x1_o224_0_S32x1 inb_S256x4096_S32x4096_224_0,
    groupPiece x0 x1 192 slices_S256x1_o192_0_S32x1 inb_S256x4096_S32x4096_192_0,
    groupPiece x0 x1 160 slices_S256x1_o160_0_S32x1 inb_S256x4096_S32x4096_160_0,
    groupPiece x0 x1 128 slices_S256x1_o128_0_S32x1 inb_S256x4096_S32x4096_128_0,
    groupPiece x0 x1 96 slices_S256x1_o96_0_S32x1 inb_S256x4096_S32x4096_96_0,
    groupPiece x0 x1 64 slices_S256x1_o64_0_S32x1 inb_S256x4096_S32x4096_64_0,
    groupPiece x0 x1 32 slices_S256x1_o32_0_S32x1 inb_S256x4096_S32x4096_32_0,
    groupPiece x0 x1 0 slices_S256x1_o0_0_S32x1 inb_S256x4096_S32x4096_0_0]

/-- What a load of a group's rows from the scratch buffer reads. -/
def back (x0 : Vec F S256x4096 .bf16) (x1 : Vec F S1x4096 .f32) (o : Nat)
    (h : ∀ a, (![o, 0] : Fin 2 → Nat) a + S32x4096.size a ≤ S256x4096.size a) : Vec F S32x4096 .f32 :=
  fun j => View.canon (normPieces x0 x1) ((rowRect o h).toLoadRect.idx j)

/-! ## The scale -/

/-- Each row's largest absolute value, over 448. -/
def rowRange (x0 : Vec F S256x4096 .bf16) (x1 : Vec F S1x4096 .f32) : FVec F S256x1 .f32 :=
  k0_pay32 (k0_pay14 (group x0 x1 0 slices_S256x1_o0_0_S32x1 inb_S256x4096_S32x4096_0_0)) (k0_pay14 (group x0 x1 32 slices_S256x1_o32_0_S32x1 inb_S256x4096_S32x4096_32_0)) (k0_pay14 (group x0 x1 64 slices_S256x1_o64_0_S32x1 inb_S256x4096_S32x4096_64_0)) (k0_pay14 (group x0 x1 96 slices_S256x1_o96_0_S32x1 inb_S256x4096_S32x4096_96_0)) (k0_pay14 (group x0 x1 128 slices_S256x1_o128_0_S32x1 inb_S256x4096_S32x4096_128_0)) (k0_pay14 (group x0 x1 160 slices_S256x1_o160_0_S32x1 inb_S256x4096_S32x4096_160_0)) (k0_pay14 (group x0 x1 192 slices_S256x1_o192_0_S32x1 inb_S256x4096_S32x4096_192_0))
    (group x0 x1 224 slices_S256x1_o224_0_S32x1 inb_S256x4096_S32x4096_224_0)

/-- Each row's exponent, found from `rowRange` bit by bit. -/
def rowExp (x0 : Vec F S256x4096 .bf16) (x1 : Vec F S1x4096 .f32) : IVec S256x1 32 :=
  k0_pay34 (rowRange x0 x1) (k0_pay33 (k0_pay14 (group x0 x1 0 slices_S256x1_o0_0_S32x1 inb_S256x4096_S32x4096_0_0)) (k0_pay14 (group x0 x1 32 slices_S256x1_o32_0_S32x1 inb_S256x4096_S32x4096_32_0)) (k0_pay14 (group x0 x1 64 slices_S256x1_o64_0_S32x1 inb_S256x4096_S32x4096_64_0)) (k0_pay14 (group x0 x1 96 slices_S256x1_o96_0_S32x1 inb_S256x4096_S32x4096_96_0)) (k0_pay14 (group x0 x1 128 slices_S256x1_o128_0_S32x1 inb_S256x4096_S32x4096_128_0)) (k0_pay14 (group x0 x1 160 slices_S256x1_o160_0_S32x1 inb_S256x4096_S32x4096_160_0)) (k0_pay14 (group x0 x1 192 slices_S256x1_o192_0_S32x1 inb_S256x4096_S32x4096_192_0))
    (group x0 x1 224 slices_S256x1_o224_0_S32x1 inb_S256x4096_S32x4096_224_0)) 8#32

/-- Each row's scale: two to its exponent, made from the exponent's bits. -/
def rowScale (x0 : Vec F S256x4096 .bf16) (x1 : Vec F S1x4096 .f32) : FVec F S256x1 .f32 :=
  k0_pay36 (addi (rowExp x0 x1) (broadcast S256x1 127#32)) 23#32

/-- Each row's reciprocal scale. -/
def rowInv (x0 : Vec F S256x4096 .bf16) (x1 : Vec F S1x4096 .f32) : FVec F S256x1 .f32 :=
  k0_pay37 (rowExp x0 x1)

/-! ## The stored rows -/

/-- Thirty-two rows scaled and clipped to the storage format's range. -/
def clipRows (inv : FVec F S256x1 .f32) (o : Nat) (hs : S256x1.Slices ![o, 0] S32x1) (h : Vec F S32x4096 .f32) :
    FVec F S32x4096 .fp8e4m3 :=
  truncf .fp8e4m3 (minimumf (broadcast S32x4096 (Scalar.ofBits .f32 0x43E00000#32))
    (maximumf (broadcast S32x4096 (Scalar.ofBits .f32 0xC3E00000#32))
      (mulf h (broadcastTo S32x4096 (extractStridedSlice S32x1 ![o, 0] inv hs) broadcasts_S32x1_S32x4096)))) bitsLt_fp8e4m3_f32

/-- The stored rows as pieces, the last store first, from the groups as read back. -/
def codePieces (inv : FVec F S256x1 .f32) (b0 b1 b2 b3 b4 b5 b6 b7 : Vec F S32x4096 .f32) :
    List (View.Piece (Elt F) S256x4096 .fp8e4m3) :=
  [⟨rowRect 224 inb_S256x4096_S32x4096_224_0, clipRows inv 224 slices_S256x1_o224_0_S32x1 b7⟩,
    ⟨rowRect 192 inb_S256x4096_S32x4096_192_0, clipRows inv 192 slices_S256x1_o192_0_S32x1 b6⟩,
    ⟨rowRect 160 inb_S256x4096_S32x4096_160_0, clipRows inv 160 slices_S256x1_o160_0_S32x1 b5⟩,
    ⟨rowRect 128 inb_S256x4096_S32x4096_128_0, clipRows inv 128 slices_S256x1_o128_0_S32x1 b4⟩,
    ⟨rowRect 96 inb_S256x4096_S32x4096_96_0, clipRows inv 96 slices_S256x1_o96_0_S32x1 b3⟩,
    ⟨rowRect 64 inb_S256x4096_S32x4096_64_0, clipRows inv 64 slices_S256x1_o64_0_S32x1 b2⟩,
    ⟨rowRect 32 inb_S256x4096_S32x4096_32_0, clipRows inv 32 slices_S256x1_o32_0_S32x1 b1⟩,
    ⟨rowRect 0 inb_S256x4096_S32x4096_0_0, clipRows inv 0 slices_S256x1_o0_0_S32x1 b0⟩]

/-- The stored rows. -/
def codes (x0 : Vec F S256x4096 .bf16) (x1 : Vec F S1x4096 .f32) : Vec F S256x4096 .fp8e4m3 :=
  View.canon (codePieces (rowInv x0 x1) (back x0 x1 0 inb_S256x4096_S32x4096_0_0)
    (back x0 x1 32 inb_S256x4096_S32x4096_32_0)
    (back x0 x1 64 inb_S256x4096_S32x4096_64_0)
    (back x0 x1 96 inb_S256x4096_S32x4096_96_0)
    (back x0 x1 128 inb_S256x4096_S32x4096_128_0)
    (back x0 x1 160 inb_S256x4096_S32x4096_160_0)
    (back x0 x1 192 inb_S256x4096_S32x4096_192_0)
    (back x0 x1 224 inb_S256x4096_S32x4096_224_0))

/-! ## The projection and the heads -/

/-- The projection, rescaled by the row scales and the column scales. -/
def project (s : FVec F S256x1 .f32) (k : Vec F S256x4096 .fp8e4m3) (x2 : Vec F S4096x1536 .fp8e4m3) (x3 : Vec F S1x1536 .f32) :
    FVec F S256x1536 .f32 :=
  k0_pay48 s k (View.ld x2 (Rect.unit (s := S4096x1536) ![0, 0] S4096x1536.size inb_S4096x1536_S4096x1536_0_0))
    (View.ld x3 (Rect.unit (s := S1x1536) ![0, 0] S1x1536.size inb_S1x1536_S1x1536_0_0))

/-- The rotation's cosines, and -/
def cosTable (x4 : Vec F S256x1 .i32) (x5 : Vec F S1x128 .f32) : FVec F S256x128 .f32 :=
  k0_pay52 (k0_pay49 (View.ld x4 (Rect.unit (s := S256x1) ![0, 0] S256x1.size inb_S256x1_S256x1_0_0)))
    (k0_pay50 (View.ld x5 (Rect.unit (s := S1x128) ![0, 0] S1x128.size inb_S1x128_S1x128_0_0)))

/-- its sines, negated in the first half of the lanes. -/
def sinTable (x4 : Vec F S256x1 .i32) (x5 : Vec F S1x128 .f32) : FVec F S256x128 .f32 :=
  k0_pay53 (k0_pay49 (View.ld x4 (Rect.unit (s := S256x1) ![0, 0] S256x1.size inb_S256x1_S256x1_0_0)))
    (k0_pay50 (View.ld x5 (Rect.unit (s := S1x128) ![0, 0] S1x128.size inb_S1x128_S1x128_0_0)))

/-- One rotated head, from the projection's columns `o` to `o + 127`. -/
def rotHead (y : FVec F S256x1536 .f32) (c s : FVec F S256x128 .f32) (o : Nat) (hs : S256x1536.Slices ![0, o] S256x128) :
    FVec F S256x1x128 .bf16 :=
  shapeCast S256x1x128 (truncf .bf16 (addf (mulf (extractStridedSlice S256x128 ![0, o] y hs) c)
    (mulf (dynamicRotate 1 64#32 none (extractStridedSlice S256x128 ![0, o] y hs) rotates_S256x128_d1) s)) bitsLt_bf16_f32)
    shapeCasts_S256x128_S256x1x128

/-- One head left as it is, from the projection's columns `o` to `o + 127`. -/
def plainHead (y : FVec F S256x1536 .f32) (o : Nat) (hs : S256x1536.Slices ![0, o] S256x128) : FVec F S256x1x128 .bf16 :=
  shapeCast S256x1x128 (truncf .bf16 (extractStridedSlice S256x128 ![0, o] y hs) bitsLt_bf16_f32) shapeCasts_S256x128_S256x1x128

/-- Two heads side by side. -/
def pair (a b : FVec F S256x1x128 .bf16) : FVec F S256x2x128 .bf16 := fun i =>
  if (i 1).val = 0 then a (ix3 (i 0) 0 (i 2)) else b (ix3 (i 0) 0 (i 2))

/-- Writing both heads of a pair, one after the other, leaves nothing of what was there. -/
theorem updateSlice_pair (old : FVec F S256x2x128 .bf16) (a b : FVec F S256x1x128 .bf16) :
    updateSlice (updateSlice old a ![0, 0, 0] slices_S256x2x128_S256x1x128_0_0_0) b ![0, 1, 0] slices_S256x2x128_S256x1x128_0_1_0
      = pair a b := by
  funext i
  have h1 : (i 1).val = 0 ∨ (i 1).val = 1 := by have := (i 1).isLt; change (i 1).val < 2 at this; omega
  have h0 : (i 0).val < 256 := (i 0).isLt
  have h2 : (i 2).val < 128 := (i 2).isLt
  unfold updateSlice pair
  rcases h1 with h1 | h1
  · rw [dif_neg (by intro h; have := (h 1).1; change 1 ≤ (i 1).val at this; omega),
      dif_pos (by intro a; fin_cases a <;> simp [h1] <;> omega), if_pos h1]
    congr 1; funext a; apply Fin.ext; fin_cases a <;> simp [h1]
  · rw [dif_pos (by intro a; fin_cases a <;> simp [h1] <;> omega), if_neg (by omega)]
    congr 1; funext a; apply Fin.ext; fin_cases a <;> simp [h1]

/-- A store through the same rectangle as the store before it hides that one. -/
theorem canon_cons_same {s : Shape} {e : EltTy} (r : Rect s) (w w' : r.shape.Idx → Elt F e) (L : List (View.Piece (Elt F) s e)) :
    View.canon (⟨r, w⟩ :: ⟨r, w'⟩ :: L) = View.canon (⟨r, w⟩ :: L) := by
  funext y
  by_cases hy : y ∈ r.set
  · obtain ⟨x, (rfl : r.emb x = y)⟩ := r.exists_idx_of_mem hy
    rw [View.canon_cons_emb, View.canon_cons_emb]
  · rw [View.canon_cons_of_not_mem _ _ hy, View.canon_cons_of_not_mem _ _ hy, View.canon_cons_of_not_mem _ _ hy]

/-- The query block: eight rotated heads, stored two by two. -/
def queries (y : FVec F S256x1536 .f32) (c s : FVec F S256x128 .f32) : Vec F S256x8x128 .bf16 :=
  View.canon [⟨headRect 6 inb_S256x8x128_S256x2x128_0_6_0, pair (rotHead y c s 768 slices_S256x1536_o0_768_S256x128) (rotHead y c s 896 slices_S256x1536_o0_896_S256x128)⟩,
    ⟨headRect 4 inb_S256x8x128_S256x2x128_0_4_0, pair (rotHead y c s 512 slices_S256x1536_o0_512_S256x128) (rotHead y c s 640 slices_S256x1536_o0_640_S256x128)⟩,
    ⟨headRect 2 inb_S256x8x128_S256x2x128_0_2_0, pair (rotHead y c s 256 slices_S256x1536_o0_256_S256x128) (rotHead y c s 384 slices_S256x1536_o0_384_S256x128)⟩,
    ⟨headRect 0 inb_S256x8x128_S256x2x128_0_0_0, pair (rotHead y c s 0 slices_S256x1536_o0_0_S256x128) (rotHead y c s 128 slices_S256x1536_o0_128_S256x128)⟩]

/-- The key block: two rotated heads. -/
def keys (y : FVec F S256x1536 .f32) (c s : FVec F S256x128 .f32) : Vec F S256x2x128 .bf16 :=
  pair (rotHead y c s 1024 slices_S256x1536_o0_1024_S256x128) (rotHead y c s 1152 slices_S256x1536_o0_1152_S256x128)

/-- The value block: two plain heads. -/
def values (y : FVec F S256x1536 .f32) : Vec F S256x2x128 .bf16 :=
  pair (plainHead y 1280 slices_S256x1536_o0_1280_S256x128) (plainHead y 1408 slices_S256x1536_o0_1408_S256x128)

/-- The projection from the input blocks. -/
def proj (x0 : Vec F S256x4096 .bf16) (x1 : Vec F S1x4096 .f32) (x2 : Vec F S4096x1536 .fp8e4m3) (x3 : Vec F S1x1536 .f32) :
    FVec F S256x1536 .f32 :=
  project (rowScale x0 x1) (codes x0 x1) x2 x3

end Cert.KernelIdeal.Body

end
-- ==== Proof.Body.lean ====
/-
  The kernel body's run at one grid point: from the input windows' blocks and anything in the output windows and the
  scratch buffer, it leaves in each output window the function of the input blocks that Block.lean names.
-/
module

public import proofs.«01_k».proof.Proof.Block

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The query block's eight stores, each a pair of heads read, changed by one head and written again, leave the eight
    heads, whatever the block held before. -/
theorem canon_queries (v : View sig .tc .vmem S256x8x128 .bf16) (o0 o2 o4 o6 : FVec F S256x2x128 .bf16)
    (a0 a1 a2 a3 a4 a5 a6 a7 : FVec F S256x1x128 .bf16) :
    let L1 : List (View.Piece (Elt F) S256x8x128 .bf16) := ⟨headRect 0 inb_S256x8x128_S256x2x128_0_0_0, updateSlice o0 a0 ![0, 0, 0] slices_S256x2x128_S256x1x128_0_0_0⟩ :: []
    let L2 : List (View.Piece (Elt F) S256x8x128 .bf16) := ⟨headRect 0 inb_S256x8x128_S256x2x128_0_0_0, updateSlice (v.readCov L1 (headRect 0 inb_S256x8x128_S256x2x128_0_0_0).toLoadRect) a1 ![0, 1, 0] slices_S256x2x128_S256x1x128_0_1_0⟩ :: L1
    let L3 : List (View.Piece (Elt F) S256x8x128 .bf16) := ⟨headRect 2 inb_S256x8x128_S256x2x128_0_2_0, updateSlice o2 a2 ![0, 0, 0] slices_S256x2x128_S256x1x128_0_0_0⟩ :: L2
    let L4 : List (View.Piece (Elt F) S256x8x128 .bf16) := ⟨headRect 2 inb_S256x8x128_S256x2x128_0_2_0, updateSlice (v.readCov L3 (headRect 2 inb_S256x8x128_S256x2x128_0_2_0).toLoadRect) a3 ![0, 1, 0] slices_S256x2x128_S256x1x128_0_1_0⟩ :: L3
    let L5 : List (View.Piece (Elt F) S256x8x128 .bf16) := ⟨headRect 4 inb_S256x8x128_S256x2x128_0_4_0, updateSlice o4 a4 ![0, 0, 0] slices_S256x2x128_S256x1x128_0_0_0⟩ :: L4
    let L6 : List (View.Piece (Elt F) S256x8x128 .bf16) := ⟨headRect 4 inb_S256x8x128_S256x2x128_0_4_0, updateSlice (v.readCov L5 (headRect 4 inb_S256x8x128_S256x2x128_0_4_0).toLoadRect) a5 ![0, 1, 0] slices_S256x2x128_S256x1x128_0_1_0⟩ :: L5
    let L7 : List (View.Piece (Elt F) S256x8x128 .bf16) := ⟨headRect 6 inb_S256x8x128_S256x2x128_0_6_0, updateSlice o6 a6 ![0, 0, 0] slices_S256x2x128_S256x1x128_0_0_0⟩ :: L6
    let L8 : List (View.Piece (Elt F) S256x8x128 .bf16) := ⟨headRect 6 inb_S256x8x128_S256x2x128_0_6_0, updateSlice (v.readCov L7 (headRect 6 inb_S256x8x128_S256x2x128_0_6_0).toLoadRect) a7 ![0, 1, 0] slices_S256x2x128_S256x1x128_0_1_0⟩ :: L7
    View.canon L8 = View.canon [⟨headRect 6 inb_S256x8x128_S256x2x128_0_6_0, pair a6 a7⟩, ⟨headRect 4 inb_S256x8x128_S256x2x128_0_4_0, pair a4 a5⟩, ⟨headRect 2 inb_S256x8x128_S256x2x128_0_2_0, pair a2 a3⟩, ⟨headRect 0 inb_S256x8x128_S256x2x128_0_0_0, pair a0 a1⟩] := by
  intro L1 L2 L3 L4 L5 L6 L7 L8
  simp only [L1, L2, L3, L4, L5, L6, L7, L8, View.readCov_cons_toLoadRect, updateSlice_pair]
  rw [canon_cons_same, View.canon_cons, canon_cons_same, View.canon_cons, canon_cons_same, View.canon_cons, canon_cons_same]
  rfl

/-- The same for a block of two heads. -/
theorem canon_two (v : View sig .tc .vmem S256x2x128 .bf16) (o0 : FVec F S256x2x128 .bf16) (a0 a1 : FVec F S256x1x128 .bf16) :
    let r := Rect.unit (s := S256x2x128) ![0, 0, 0] S256x2x128.size inb_S256x2x128_S256x2x128_0_0_0
    let L1 : List (View.Piece (Elt F) S256x2x128 .bf16) := [⟨r, updateSlice o0 a0 ![0, 0, 0] slices_S256x2x128_S256x1x128_0_0_0⟩]
    View.canon (⟨r, updateSlice (v.readCov L1 r.toLoadRect) a1 ![0, 1, 0] slices_S256x2x128_S256x1x128_0_1_0⟩ :: L1 : List (View.Piece (Elt F) S256x2x128 .bf16)) = pair a0 a1 := by
  intro r L1
  simp only [L1, View.readCov_cons_toLoadRect, updateSlice_pair]
  exact View.canon_cons_unit_zero (by decide) _ _ _

/-- The stored rows as the run names them, from loads of the scratch buffer. -/
def codeRun (v12 : View sig .tc .vmem S256x4096 .f32) (x0 : Vec F S256x4096 .bf16) (x1 : Vec F S1x4096 .f32) :
    List (View.Piece (Elt F) S256x4096 .fp8e4m3) :=
  codePieces (rowInv x0 x1) (v12.readCov (normPieces x0 x1) (rowRect 0 inb_S256x4096_S32x4096_0_0).toLoadRect) (v12.readCov (normPieces x0 x1) (rowRect 32 inb_S256x4096_S32x4096_32_0).toLoadRect) (v12.readCov (normPieces x0 x1) (rowRect 64 inb_S256x4096_S32x4096_64_0).toLoadRect) (v12.readCov (normPieces x0 x1) (rowRect 96 inb_S256x4096_S32x4096_96_0).toLoadRect) (v12.readCov (normPieces x0 x1) (rowRect 128 inb_S256x4096_S32x4096_128_0).toLoadRect) (v12.readCov (normPieces x0 x1) (rowRect 160 inb_S256x4096_S32x4096_160_0).toLoadRect) (v12.readCov (normPieces x0 x1) (rowRect 192 inb_S256x4096_S32x4096_192_0).toLoadRect) (v12.readCov (normPieces x0 x1) (rowRect 224 inb_S256x4096_S32x4096_224_0).toLoadRect)

theorem canon_codeRun (v12 : View sig .tc .vmem S256x4096 .f32) (x0 : Vec F S256x4096 .bf16) (x1 : Vec F S1x4096 .f32) :
    View.canon (codeRun v12 x0 x1) = codes x0 x1 := by
  unfold codeRun codes back
  simp only [View.readCov_eq_canon']
  rfl

/-- The stored rows read back whole. -/
theorem readCov_codeRun (v10 : View sig .tc .vmem S256x4096 .fp8e4m3) (v12 : View sig .tc .vmem S256x4096 .f32)
    (x0 : Vec F S256x4096 .bf16) (x1 : Vec F S1x4096 .f32) :
    v10.readCov (codeRun v12 x0 x1) (Rect.unit (s := S256x4096) ![0, 0] S256x4096.size inb_S256x4096_S256x4096_0_0).toLoadRect = codes x0 x1 := by
  rw [View.readCov_eq_canon', canon_codeRun]
  exact View.ld_unit_zero (by decide) _ _

theorem cover_rows (p0 p1 p2 p3 p4 p5 p6 p7 : Vec F S32x4096 .fp8e4m3) (y : S256x4096.Idx) :
    ∃ pc ∈ ([⟨rowRect 224 inb_S256x4096_S32x4096_224_0, p7⟩, ⟨rowRect 192 inb_S256x4096_S32x4096_192_0, p6⟩, ⟨rowRect 160 inb_S256x4096_S32x4096_160_0, p5⟩, ⟨rowRect 128 inb_S256x4096_S32x4096_128_0, p4⟩, ⟨rowRect 96 inb_S256x4096_S32x4096_96_0, p3⟩, ⟨rowRect 64 inb_S256x4096_S32x4096_64_0, p2⟩, ⟨rowRect 32 inb_S256x4096_S32x4096_32_0, p1⟩, ⟨rowRect 0 inb_S256x4096_S32x4096_0_0, p0⟩] : List (View.Piece (Elt F) S256x4096 .fp8e4m3)), y ∈ pc.1.set :=
  View.cover_of_tiled [⟨rowRect 224 inb_S256x4096_S32x4096_224_0, p7⟩, ⟨rowRect 192 inb_S256x4096_S32x4096_192_0, p6⟩, ⟨rowRect 160 inb_S256x4096_S32x4096_160_0, p5⟩, ⟨rowRect 128 inb_S256x4096_S32x4096_128_0, p4⟩, ⟨rowRect 96 inb_S256x4096_S32x4096_96_0, p3⟩, ⟨rowRect 64 inb_S256x4096_S32x4096_64_0, p2⟩, ⟨rowRect 32 inb_S256x4096_S32x4096_32_0, p1⟩, ⟨rowRect 0 inb_S256x4096_S32x4096_0_0, p0⟩] S32x4096.size (by rfl) y

theorem cover_heads (p0 p1 p2 p3 p4 p5 p6 p7 : Vec F S256x2x128 .bf16) (y : S256x8x128.Idx) :
    ∃ pc ∈ ([⟨headRect 6 inb_S256x8x128_S256x2x128_0_6_0, p7⟩, ⟨headRect 6 inb_S256x8x128_S256x2x128_0_6_0, p6⟩, ⟨headRect 4 inb_S256x8x128_S256x2x128_0_4_0, p5⟩, ⟨headRect 4 inb_S256x8x128_S256x2x128_0_4_0, p4⟩, ⟨headRect 2 inb_S256x8x128_S256x2x128_0_2_0, p3⟩, ⟨headRect 2 inb_S256x8x128_S256x2x128_0_2_0, p2⟩, ⟨headRect 0 inb_S256x8x128_S256x2x128_0_0_0, p1⟩, ⟨headRect 0 inb_S256x8x128_S256x2x128_0_0_0, p0⟩] : List (View.Piece (Elt F) S256x8x128 .bf16)), y ∈ pc.1.set := by
  obtain ⟨pc, hm, hy⟩ := View.cover_of_tiled [⟨headRect 6 inb_S256x8x128_S256x2x128_0_6_0, p6⟩, ⟨headRect 4 inb_S256x8x128_S256x2x128_0_4_0, p4⟩, ⟨headRect 2 inb_S256x8x128_S256x2x128_0_2_0, p2⟩, ⟨headRect 0 inb_S256x8x128_S256x2x128_0_0_0, p0⟩] S256x2x128.size (by rfl) y
  refine ⟨pc, ?_, hy⟩
  simp only [List.mem_cons, List.not_mem_nil, or_false] at hm ⊢
  tauto

theorem cover_two (p0 p1 : Vec F S256x2x128 .bf16) (y : S256x2x128.Idx) :
    ∃ pc ∈ ([⟨Rect.unit (s := S256x2x128) ![0, 0, 0] S256x2x128.size inb_S256x2x128_S256x2x128_0_0_0, p1⟩,
      ⟨Rect.unit (s := S256x2x128) ![0, 0, 0] S256x2x128.size inb_S256x2x128_S256x2x128_0_0_0, p0⟩] : List (View.Piece (Elt F) S256x2x128 .bf16)), y ∈ pc.1.set :=
  ⟨_, List.mem_cons_self, View.mem_set_unit_zero (by decide) inb_S256x2x128_S256x2x128_0_0_0 y⟩

theorem cover_one (p0 : Vec F S256x1 .f32) (y : S256x1.Idx) :
    ∃ pc ∈ ([⟨Rect.unit (s := S256x1) ![0, 0] S256x1.size inb_S256x1_S256x1_0_0, p0⟩] : List (View.Piece (Elt F) S256x1 .f32)), y ∈ pc.1.set :=
  ⟨_, List.mem_cons_self, View.mem_set_unit_zero (by decide) inb_S256x1_S256x1_0_0 y⟩

set_option maxHeartbeats 4000000 in
/-- The body's run. -/
theorem kernelRun (c : Dev nD) (E : Set ℕ) (i : grid0.Coords)
    (arg1 : Memref sig .tc .vmem S256x4096 .bf16) (harg1 : arg1.IsWhole)
    (arg2 : Memref sig .tc .vmem S1x4096 .f32) (harg2 : arg2.IsWhole)
    (arg3 : Memref sig .tc .vmem S4096x1536 .fp8e4m3) (harg3 : arg3.IsWhole)
    (arg4 : Memref sig .tc .vmem S1x1536 .f32) (harg4 : arg4.IsWhole)
    (arg5 : Memref sig .tc .vmem S256x1 .i32) (harg5 : arg5.IsWhole)
    (arg6 : Memref sig .tc .vmem S1x128 .f32) (harg6 : arg6.IsWhole)
    (arg7 : Memref sig .tc .vmem S256x8x128 .bf16) (harg7 : arg7.IsWhole)
    (arg8 : Memref sig .tc .vmem S256x2x128 .bf16) (harg8 : arg8.IsWhole)
    (arg9 : Memref sig .tc .vmem S256x2x128 .bf16) (harg9 : arg9.IsWhole)
    (arg10 : Memref sig .tc .vmem S256x4096 .fp8e4m3) (harg10 : arg10.IsWhole)
    (arg11 : Memref sig .tc .vmem S256x1 .f32) (harg11 : arg11.IsWhole)
    (arg12 : Memref sig .tc .vmem S256x4096 .f32) (harg12 : arg12.IsWhole)
    (x0 : Vec F S256x4096 .bf16) (x1 : Vec F S1x4096 .f32) (x2 : Vec F S4096x1536 .fp8e4m3) (x3 : Vec F S1x1536 .f32) (x4 : Vec F S256x1 .i32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (∃ f : BufTy.Contents (Elt F) arg12.view.ty, arg12.view.loc (c : Thread nD τ) ↦{fullShare} f)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (queries (proj x0 x1 x2 x3) (cosTable x4 x5) (sinTable x4 x5)) ∗ owns (c : Thread nD τ) arg8 fullShare (keys (proj x0 x1 x2 x3) (cosTable x4 x5) (sinTable x4 x5)) ∗ owns (c : Thread nD τ) arg9 fullShare (values (proj x0 x1 x2 x3)) ∗ owns (c : Thread nD τ) arg10 fullShare (codes x0 x1) ∗ owns (c : Thread nD τ) arg11 fullShare (rowScale x0 x1)
            ∗ (∃ f : BufTy.Contents (Elt F) arg12.view.ty, arg12.view.loc (c : Thread nD τ) ↦{fullShare} f)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  have hproj : proj x0 x1 x2 x3 = project (rowScale x0 x1) (arg10.view.readCov (codeRun arg12.view x0 x1)
      (Rect.unit (s := S256x4096) ![0, 0] S256x4096.size inb_S256x4096_S256x4096_0_0).toLoadRect) x2 x3 := by
    rw [readCov_codeRun]; rfl
  rw [hproj, ← canon_codeRun arg12.view x0 x1]
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, H12⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_heads _ _ _ _ _ _ _ _)).trans ?_
    exact canon_queries arg7.view _ _ _ _ _ _ _ _ _ _ _ _
  isplitl [H8]
  · iexists _; isplitr
    swap; · iexact H8
    ipureintro
    refine (View.read_writes_eq_canon _ _ _ (cover_two _ _)).trans ?_
    exact canon_two arg8.view _ _ _
  isplitl [H9]
  · iexists _; isplitr
    swap; · iexact H9
    ipureintro
    refine (View.read_writes_eq_canon _ _ _ (cover_two _ _)).trans ?_
    exact canon_two arg9.view _ _ _
  isplitl [H10]
  · iexists _; isplitr
    swap; · iexact H10
    ipureintro
    refine (View.read_writes_eq_canon _ _ _ (cover_rows _ _ _ _ _ _ _ _)).trans ?_
    rfl
  isplitl [H11]
  · iexists _; isplitr
    swap; · iexact H11
    ipureintro
    refine (View.read_writes_eq_canon _ _ _ (cover_one _)).trans ?_
    exact View.canon_unit_zero (by decide) _ _
  iexists _; iexact H12

end Cert.KernelIdeal.Body

end
-- ==== Proof.Run.lean ====
/-
  The whole launch of the kernel: the pipeline's proof data (each output window ends at the function of the input blocks
  that Block.lean names), the body obligation from Body.lean's run, and from them the run of @main and the frame.
-/
module

public import proofs.«01_k».proof.Proof.Body
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: what each window's array and buffer hold at each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => queries (proj (iblk m c 0 t) (iblk m c 1 t) (iblk m c 2 t) (iblk m c 3 t)) (cosTable (iblk m c 4 t) (iblk m c 5 t)) (sinTable (iblk m c 4 t) (iblk m c 5 t))
    | ⟨7, _⟩ => keys (proj (iblk m c 0 t) (iblk m c 1 t) (iblk m c 2 t) (iblk m c 3 t)) (cosTable (iblk m c 4 t) (iblk m c 5 t)) (sinTable (iblk m c 4 t) (iblk m c 5 t))
    | ⟨8, _⟩ => values (proj (iblk m c 0 t) (iblk m c 1 t) (iblk m c 2 t) (iblk m c 3 t))
    | ⟨9, _⟩ => codes (iblk m c 0 t) (iblk m c 1 t)
    | ⟨10, _⟩ => rowScale (iblk m c 0 t) (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = queries (proj (iblk m c 0 t) (iblk m c 1 t) (iblk m c 2 t) (iblk m c 3 t)) (cosTable (iblk m c 4 t) (iblk m c 5 t)) (sinTable (iblk m c 4 t) (iblk m c 5 t)) := by dsimp only [dats]
theorem after0_7 (c : Dev nD) (t : Fin cfg0.N) : (dats m 0 c).after 7 t = keys (proj (iblk m c 0 t) (iblk m c 1 t) (iblk m c 2 t) (iblk m c 3 t)) (cosTable (iblk m c 4 t) (iblk m c 5 t)) (sinTable (iblk m c 4 t) (iblk m c 5 t)) := by dsimp only [dats]
theorem after0_8 (c : Dev nD) (t : Fin cfg0.N) : (dats m 0 c).after 8 t = values (proj (iblk m c 0 t) (iblk m c 1 t) (iblk m c 2 t) (iblk m c 3 t)) := by dsimp only [dats]
theorem after0_9 (c : Dev nD) (t : Fin cfg0.N) : (dats m 0 c).after 9 t = codes (iblk m c 0 t) (iblk m c 1 t) := by dsimp only [dats]
theorem after0_10 (c : Dev nD) (t : Fin cfg0.N) : (dats m 0 c).after 10 t = rowScale (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the input windows hold their blocks, so the body's run applies; the scratch buffer is lent out of
    the invariant and handed back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [Hs]; · iexact Hs
  iintro ⟨H0, H1, H2, H3, H4, H5, H6, H7, H8, H9, H10, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's run restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the run ends with every argument array as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Same.lean ====
/-
  The kernel as compiled and the kernel as read over the extended reals are one program text: the launch, the body table
  and the frame of the second are those of the first.
-/
module

public import proofs.«01_k».proof.Proof.Run
public import proofs.«01_k».proof.Proof.Gen.Kernel.Launch

@[expose] public section

set_option maxRecDepth 65536

noncomputable section

namespace Cert.Kernel.Body

open Idealize.ShloMosaic Idealize.ShloMosaic.TcCoe Idealize.SL.Sem

variable {F : FTy → Type} [FloatOps F]

set_option maxHeartbeats 4000000 in
theorem main_eq : Cert.Kernel.main (F := F) = Cert.KernelIdeal.main (F := F) := rfl

set_option maxHeartbeats 4000000 in
theorem body_eq : @Cert.Kernel.cc0__body F _ _ = @Cert.KernelIdeal.cc0__body F _ _ := rfl

set_option maxHeartbeats 4000000 in
theorem defs₀_eq : Cert.Kernel.defs₀ (F := F) = Cert.KernelIdeal.defs₀ (F := F) := by
  unfold Cert.Kernel.defs₀ Cert.KernelIdeal.defs₀
  congr 1
  funext l
  match l with
  | 0 => funext ⟨t, s⟩; rfl
  | ⟨k + 1, h⟩ => exact absurd h (Nat.not_lt.2 (Nat.le_add_left _ _))

set_option maxHeartbeats 4000000 in
theorem defs_eq : Cert.Kernel.defs (F := F) = Cert.KernelIdeal.defs (F := F) := by
  unfold Cert.Kernel.defs Cert.KernelIdeal.defs
  rw [defs₀_eq]
  rfl

set_option maxHeartbeats 4000000 in
/-- The frame of the kernel as compiled. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_eq, main_eq]
  exact Cert.KernelIdeal.Body.frame m ρ

end Cert.Kernel.Body

end
-- ==== Proof.Spec.lean ====
/-
  The layer's mathematics, one token row at a time, over the extended reals.

  A row is normalised (reciprocal root mean square times the gain); its largest absolute value picks a power of two, the
  row's scale; the row over its scale, clipped to the storage format's range, is the stored row; the stored row times the weights,
  rescaled by the row's scale and the columns' scales, is the projection; a head of the projection is rotated by the row's
  angles.
-/
module

public import Idealize.ShloMosaic.Lib.Pointwise

@[expose] public section

noncomputable section

namespace Cert.Spec

open Idealize.ShloMosaic

/-- The sum of a row's squares. -/
def sumSq (x : Fin 4096 → EReal) : EReal := ∑ k, x k * x k

/-- The reciprocal of a row's root mean square. -/
def recip (x : Fin 4096 → EReal) : EReal :=
  Ideal.rsqrt (Ideal.div (sumSq x) (Ideal.ofBits .f32 0x45800000#32) + Ideal.ofBits .f32 0x358637BD#32)

/-- The normalised row. -/
def norm (x g : Fin 4096 → EReal) (k : Fin 4096) : EReal := x k * recip x * g k

/-- A row's largest absolute value. -/
def peak (h : Fin 4096 → EReal) : EReal := Finset.univ.fold max ⊥ (fun k => max (h k) (-h k))

/-- The range a row of largest absolute value `a` needs of its scale: `a / 448`. -/
def range (a : EReal) : EReal := a * Ideal.ofBits .f32 0x3B124925#32

/-- The exponent of a row's scale: one more than the floor of the base-two logarithm of the range, at least −126; zero for a
    row of zeros. -/
def exponent (a : EReal) : EReal :=
  if a = 0 then 0
  else max (Ideal.liftRound Int.floor (Ideal.div (Ideal.log (range a)) (Ideal.log (Ideal.ofBits .f32 0x40000000#32))) + 1)
    (Ideal.ofBits .f32 0xC2FC0000#32)

/-- The row's scale, and -/
def scale (a : EReal) : EReal := Ideal.exp2 (exponent a)

/-- its reciprocal. -/
def inv (a : EReal) : EReal := Ideal.exp2 (0 - exponent a)

/-- One entry of the stored row: the normalised entry over the scale, clipped to ±448. -/
def code (h v : EReal) : EReal :=
  min (Ideal.ofBits .f32 0x43E00000#32) (max (Ideal.ofBits .f32 0xC3E00000#32) (h * v))

/-- The largest absolute value of a normalised row. -/
def rowPeak (x g : Fin 4096 → EReal) : EReal := peak (norm x g)

/-- The stored row. -/
def codes (x g : Fin 4096 → EReal) (k : Fin 4096) : EReal := code (norm x g k) (inv (rowPeak x g))

/-- The projection's entry in a column of weights `w` and column scale `s`. -/
def proj (x g : Fin 4096 → EReal) (w : Fin 4096 → EReal) (s : EReal) : EReal :=
  (∑ k, codes x g k * w k) * scale (rowPeak x g) * s

/-- The angle of a position at one frequency. -/
def angle (p : BitVec 32) (f : EReal) : EReal := ((p.toInt : ℝ) : EReal) * f

/-- The first half of a rotated head, and -/
def rotLo (y0 y1 a : EReal) : EReal := y0 * Ideal.cos a - y1 * Ideal.sin a

/-- the second. -/
def rotHi (y0 y1 a : EReal) : EReal := y1 * Ideal.cos a + y0 * Ideal.sin a

/-- A head, columns `o` to `o + 127` of a projected row. -/
def headAt (y : Fin 1536 → EReal) (o : Nat) (d : Fin 128) : EReal := y (Fin.ofNat 1536 (o + d.val))

/-- A rotated head, from the head `y` and the angles `a` of its 64 pairs of lanes. -/
def rotate (y : Fin 128 → EReal) (a : Fin 64 → EReal) (d : Fin 128) : EReal :=
  if h : d.val < 64 then rotLo (y d) (y ⟨d.val + 64, by omega⟩) (a ⟨d.val, h⟩)
  else rotHi (y ⟨d.val - 64, by omega⟩) (y d) (a ⟨d.val - 64, by omega⟩)

end Cert.Spec

end
-- ==== Proof.Range.lean ====
/-
  The range a normalised row needs of its scale is a real number from 0 up to 2^126, for any row and any gain of finite
  floats: the row over its root mean square is at most 64 in absolute value, since its squares sum to at most 4096.
-/
module

public import proofs.«01_k».proof.Proof.Spec

@[expose] public section

noncomputable section

namespace Cert.Range

open Idealize.ShloMosaic Cert.Spec

/-- The constants' values. -/
theorem ofBits_448th : Ideal.ofBits .f32 0x3B124925#32 = ((9586981 / 4294967296 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_4096th : Ideal.ofBits .f32 0x39800000#32 = ((1 / 4096 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem ofBits_max : ∃ e : ℝ, 0 ≤ e ∧ e ≤ (2 : ℝ) ^ (128 : ℕ) ∧ Ideal.ofBits .f32 0x7F7FFFFF#32 = (e : EReal) := by
  refine ⟨16777215 * (2 : ℝ) ^ (104 : ℕ), by positivity, by norm_num, ?_⟩
  simp [Ideal.ofBits, Ideal.ieee, -EReal.coe_mul]

/-- Dividing by 4096 is multiplying by its reciprocal. -/
theorem div_4096 (y : EReal) : Ideal.div y (Ideal.ofBits .f32 0x45800000#32) = y * Ideal.ofBits .f32 0x39800000#32 := by
  rw [ofBits_4096, ofBits_4096th]
  unfold Ideal.div
  rw [if_neg (by norm_num), ← EReal.coe_inv]
  norm_num

theorem mul_self_nonneg (y : EReal) : 0 ≤ y * y := by
  induction y with
  | bot => simp
  | top => simp
  | coe r => rw [← EReal.coe_mul]; exact_mod_cast _root_.mul_self_nonneg r

theorem abs_nonneg (y : EReal) : 0 ≤ max y (-y) := by
  rcases le_total 0 y with h | h
  · exact le_max_of_le_left h
  · exact le_max_of_le_right (by rw [EReal.le_neg]; simpa using h)

theorem peak_nonneg (h : Fin 4096 → EReal) : 0 ≤ peak h := by
  unfold peak
  rw [Finset.le_fold_max]
  exact .inr ⟨0, Finset.mem_univ _, abs_nonneg _⟩

theorem peak_le {h : Fin 4096 → EReal} {B : EReal} (hB : ∀ k, max (h k) (-h k) ≤ B) : peak h ≤ B := by
  unfold peak
  rw [Finset.fold_max_le]
  exact ⟨bot_le, fun k _ => hB k⟩

theorem coe_sum (X : Fin 4096 → ℝ) (s : Finset (Fin 4096)) : ∑ k ∈ s, ((X k : ℝ) : EReal) = ((∑ k ∈ s, X k : ℝ) : EReal) := by
  classical
  induction s using Finset.induction_on with
  | empty => simp
  | insert a s ha ih => rw [Finset.sum_insert ha, Finset.sum_insert ha, ih, EReal.coe_add]

/-- A row with an infinite entry has reciprocal root mean square zero. -/
theorem recip_infinite {x : Fin 4096 → EReal} {k : Fin 4096} (hk : x k = ⊤ ∨ x k = ⊥) : recip x = 0 := by
  have hs : sumSq x = ⊤ := by
    have h1 : x k * x k ≤ sumSq x :=
      Finset.single_le_sum (f := fun k => x k * x k) (fun i _ => mul_self_nonneg (x i)) (Finset.mem_univ k)
    have h2 : x k * x k = ⊤ := by rcases hk with h | h <;> rw [h] <;> simp
    rw [h2] at h1
    exact top_le_iff.mp h1
  obtain ⟨e, _, he⟩ := ofBits_eps
  unfold recip
  rw [div_4096, hs, ofBits_4096th, he, EReal.top_mul_coe_of_pos (by norm_num), EReal.top_add_coe]
  rfl

/-- A row of reals has, times its reciprocal root mean square, entries of absolute value at most 64. -/
theorem recip_real (X : Fin 4096 → ℝ) : ∃ R : ℝ, recip (fun k => ((X k : ℝ) : EReal)) = (R : EReal) ∧ ∀ k, |X k * R| ≤ 64 := by
  obtain ⟨e, he0, he⟩ := ofBits_eps
  have hss : sumSq (fun k => ((X k : ℝ) : EReal)) = ((∑ k, X k * X k : ℝ) : EReal) := by
    unfold sumSq
    rw [← coe_sum]
    simp only [EReal.coe_mul]
  have hS : 0 ≤ ∑ k, X k * X k := Finset.sum_nonneg fun i _ => _root_.mul_self_nonneg _
  set S := ∑ k, X k * X k with hSd
  have hT : 0 < S * (1 / 4096) + e := by positivity
  refine ⟨(Real.sqrt (S * (1 / 4096) + e))⁻¹, ?_, fun k => ?_⟩
  · unfold recip
    rw [div_4096, hss, ofBits_4096th, he, ← EReal.coe_mul, ← EReal.coe_add]
    show (if S * (1 / 4096) + e < 0 then (⊥ : EReal) else if S * (1 / 4096) + e = 0 then ⊤ else _) = _
    rw [if_neg (not_lt.mpr hT.le), if_neg hT.ne']
  · have hq : 0 < Real.sqrt (S * (1 / 4096) + e) := Real.sqrt_pos.mpr hT
    rw [← div_eq_mul_inv, abs_div, abs_of_pos hq, div_le_iff₀ hq]
    have h1 : X k * X k ≤ S := Finset.single_le_sum (f := fun k => X k * X k) (fun i _ => _root_.mul_self_nonneg _) (Finset.mem_univ k)
    have h2 : (64 : ℝ) = Real.sqrt 4096 := by rw [show (4096 : ℝ) = 64 ^ 2 by norm_num, Real.sqrt_sq (by norm_num)]
    rw [h2, ← Real.sqrt_mul (by norm_num)]
    apply Real.abs_le_sqrt
    nlinarith

/-- Each entry of a normalised row is at most 2^134 in absolute value. -/
theorem norm_le {x g : Fin 4096 → EReal} (hg : ∀ k, max (g k) (-g k) ≤ Ideal.ofBits .f32 0x7F7FFFFF#32) (k : Fin 4096) :
    max (Spec.norm x g k) (-Spec.norm x g k) ≤ (((2 : ℝ) ^ (134 : ℕ) : ℝ) : EReal) := by
  obtain ⟨M, hM0, hM, hMe⟩ := ofBits_max
  have hgk := hg k
  rw [hMe] at hgk
  obtain ⟨G, hG⟩ : ∃ G : ℝ, g k = (G : EReal) := by
    refine ⟨(g k).toReal, (EReal.coe_toReal ?_ ?_).symm⟩
    · intro h; rw [h] at hgk; simp at hgk
    · intro h; rw [h] at hgk; simp at hgk
  have hGa : |G| ≤ M := by
    rw [hG] at hgk
    have h1 := (le_max_left _ _).trans hgk
    have h2 := (le_max_right _ _).trans hgk
    rw [EReal.coe_le_coe_iff] at h1
    rw [← EReal.coe_neg, EReal.coe_le_coe_iff] at h2
    exact abs_le.mpr ⟨by linarith, h1⟩
  have key : ∀ v : ℝ, |v| ≤ (2 : ℝ) ^ (134 : ℕ) → max ((v : ℝ) : EReal) (-((v : ℝ) : EReal)) ≤ (((2 : ℝ) ^ (134 : ℕ) : ℝ) : EReal) := by
    intro v hv
    have := abs_le.mp hv
    rw [← EReal.coe_neg]
    exact max_le (EReal.coe_le_coe_iff.mpr this.2) (EReal.coe_le_coe_iff.mpr (by linarith))
  unfold Spec.norm
  by_cases hx : ∃ k, x k = ⊤ ∨ x k = ⊥
  · obtain ⟨j, hj⟩ := hx
    rw [recip_infinite hj, mul_zero, zero_mul]
    exact key 0 (by simp)
  · push Not at hx
    have hX : x = fun k => (((x k).toReal : ℝ) : EReal) := funext fun k => (EReal.coe_toReal (hx k).1 (hx k).2).symm
    obtain ⟨R, hR, hb⟩ := recip_real (fun k => (x k).toReal)
    rw [← hX] at hR
    rw [hR, hG, show x k = (((x k).toReal : ℝ) : EReal) from congrFun hX k, ← EReal.coe_mul, ← EReal.coe_mul]
    apply key
    rw [abs_mul]
    have := hb k
    calc |(x k).toReal * R| * |G| ≤ 64 * (2 : ℝ) ^ (128 : ℕ) :=
          mul_le_mul this (hGa.trans hM) (_root_.abs_nonneg _) (by norm_num)
      _ = (2 : ℝ) ^ (134 : ℕ) := by norm_num

/-- The range's bounds. -/
theorem range_bounds {x g : Fin 4096 → EReal} (hg : ∀ k, max (g k) (-g k) ≤ Ideal.ofBits .f32 0x7F7FFFFF#32) :
    0 ≤ range (rowPeak x g) ∧ range (rowPeak x g) < (((2 : ℝ) ^ (126 : ℤ) : ℝ) : EReal) ∧
      (range (rowPeak x g) = 0 ↔ rowPeak x g = 0) := by
  have h0 : 0 ≤ rowPeak x g := peak_nonneg _
  have h1 : rowPeak x g ≤ (((2 : ℝ) ^ (134 : ℕ) : ℝ) : EReal) := peak_le fun k => norm_le hg k
  obtain ⟨a, ha⟩ : ∃ a : ℝ, rowPeak x g = (a : EReal) := by
    refine ⟨(rowPeak x g).toReal, (EReal.coe_toReal ?_ ?_).symm⟩
    · intro h; rw [h] at h1; exact EReal.coe_ne_top _ (top_le_iff.mp h1)
    · intro h; rw [h] at h0; simp at h0
  rw [ha] at h0 h1
  have h0' : 0 ≤ a := by exact_mod_cast h0
  rw [EReal.coe_le_coe_iff] at h1
  unfold range
  rw [ha, ofBits_448th, ← EReal.coe_mul]
  refine ⟨by exact_mod_cast (by positivity), ?_, ?_⟩
  · rw [EReal.coe_lt_coe_iff]
    calc a * (9586981 / 4294967296) ≤ (2 : ℝ) ^ (134 : ℕ) * (9586981 / 4294967296) := mul_le_mul_of_nonneg_right h1 (by norm_num)
      _ < (2 : ℝ) ^ (126 : ℤ) := by norm_num
  · rw [← EReal.coe_zero, EReal.coe_eq_coe_iff, EReal.coe_eq_coe_iff]
    constructor
    · intro h; rcases mul_eq_zero.mp h with h | h
      · exact h
      · norm_num at h
    · rintro rfl; ring

end Cert.Range

end
-- ==== Proof.Quant.lean ====
/-
  The scale's exponent found bit by bit.

  The kernel reads the exponent of a row's range by bisection over the powers of two of the float format and makes the
  scale, and its reciprocal, from the exponent's bits.  For a range that is a real number from 0 up to 2^126 the two are two to
  the exponent of Spec.lean and two to its negative.
-/
module

public import proofs.«01_k».proof.Proof.Spec

@[expose] public section

noncomputable section

namespace Cert.Quant

open Idealize.ShloMosaic

/-- The float whose exponent field is `n` and whose other bits are zero. -/
def float (f : BitVec 32) : EReal := Ideal.ofBits .f32 (IntOp.shli ArithUnit.vector f 23#32)

/-- One step of the bisection: keep the bit `b` if the float of that field is at most `t`. -/
def step (t : EReal) (b f : BitVec 32) : BitVec 32 :=
  if float (IntOp.addi f b) ≤ t then IntOp.addi f b else f

/-- The field's upper four bits, and -/
def upper (t : EReal) : BitVec 32 := step t 16#32 (step t 32#32 (step t 64#32 (step t 128#32 0#32)))

/-- its lower four, after the upper ones `f`. -/
def lower (t : EReal) (f : BitVec 32) : BitVec 32 := step t 1#32 (step t 2#32 (step t 4#32 (step t 8#32 f)))

/-- The exponent as the kernel has it. -/
def expBits (t : EReal) (f : BitVec 32) : BitVec 32 := if t = 0 then 0#32 else IntOp.subi (lower t f) 126#32

/-- The real value of an exponent field. -/
def value (n : Nat) : ℝ := if n = 0 then 0 else (2 : ℝ) ^ ((n : ℤ) - 127)

theorem float_eq {n : Nat} (hn : n ≤ 254) : float (BitVec.ofNat 32 n) = ((value n : ℝ) : EReal) := by
  have hs : IntOp.shli ArithUnit.vector (BitVec.ofNat 32 n) 23#32 = BitVec.ofNat 32 n <<< 23 := by rfl
  have hb : ∀ n : Fin 255, (((BitVec.ofNat 32 n.val) <<< 23).extractLsb' 31 1 == 1#1) = false ∧
      (((BitVec.ofNat 32 n.val) <<< 23).extractLsb' 23 8).toNat = n.val ∧
      (((BitVec.ofNat 32 n.val) <<< 23).extractLsb' 0 23).toNat = 0 := by decide +kernel
  obtain ⟨h1, h2, h3⟩ := hb ⟨n, by omega⟩
  simp only at h1 h2 h3
  unfold float value
  rw [hs]
  show Ideal.ieee 8 23 _ = _
  unfold Ideal.ieee
  simp only [h1, h2, h3]
  rw [if_neg (by omega)]
  by_cases h0 : n = 0
  · simp [h0]
  · rw [if_neg h0, if_neg h0]
    have hp : (((2 ^ 23 + 0 : Nat) : ℝ)) = (2 : ℝ) ^ (23 : ℤ) := by norm_num
    have hm : (2 : ℝ) ^ (23 : ℤ) * (2 : ℝ) ^ ((n : ℤ) - (2 ^ (8 - 1) - 1) - (23 : ℕ)) = (2 : ℝ) ^ ((n : ℤ) - 127) := by
      have he : (23 : ℤ) + ((n : ℤ) - (2 ^ (8 - 1) - 1) - (23 : ℕ)) = (n : ℤ) - 127 := by norm_num
      rw [← zpow_add₀ (by norm_num), he]
    rw [hp, if_neg (by decide), one_mul, hm]

theorem float_255 : float (BitVec.ofNat 32 255) = ⊤ := by
  show Ideal.ofBits .f32 (0x7F800000#32) = ⊤
  simp [Ideal.ofBits, Ideal.ieee]

theorem value_mono {a b : Nat} (h : a ≤ b) : value a ≤ value b := by
  unfold value
  split_ifs with ha hb hb
  · exact le_refl _
  · positivity
  · omega
  · exact zpow_le_zpow_right₀ (by norm_num) (by omega)

/-- A real from 0 up to 2^126 lies between the values of two consecutive fields. -/
theorem exists_field (t : ℝ) (h0 : 0 ≤ t) (h1 : t < (2 : ℝ) ^ (126 : ℤ)) :
    ∃ N : Nat, N ≤ 252 ∧ value N ≤ t ∧ t < value (N + 1) := by
  have hex : ∃ n : Nat, t < value (n + 1) := ⟨252, by simpa [value] using h1⟩
  classical
  refine ⟨Nat.find hex, Nat.find_min' hex (by simpa [value] using h1), ?_, Nat.find_spec hex⟩
  rcases Nat.eq_zero_or_pos (Nat.find hex) with h | h
  · rw [h]; simpa [value] using h0
  · have := Nat.find_min hex (Nat.sub_lt h Nat.one_pos)
    rw [Nat.sub_add_cancel h] at this
    exact not_lt.mp this

/-- So a field's float is at most `t` exactly up to the lower of the two. -/
theorem float_le_iff {t : ℝ} {N : Nat} (hN : N ≤ 252) (hl : value N ≤ t) (hu : t < value (N + 1)) {n : Nat} (hn : n ≤ 255) :
    float (BitVec.ofNat 32 n) ≤ (t : EReal) ↔ n ≤ N := by
  rcases Nat.lt_or_ge n 255 with h | h
  · rw [float_eq (by omega), EReal.coe_le_coe_iff]
    constructor
    · intro hv
      by_contra hc
      exact absurd (lt_of_le_of_lt hv hu) (not_lt.mpr (value_mono (by omega)))
    · intro hv
      exact (value_mono hv).trans hl
  · obtain rfl : n = 255 := by omega
    rw [float_255]
    constructor
    · intro hv; exact absurd (lt_of_lt_of_le (EReal.coe_lt_top t) hv) (lt_irrefl _)
    · intro hv; omega

/-- A step turns the field's bits above `b` into its bits from `b` up. -/
theorem step_eq {t : ℝ} {N : Nat} (hN : N ≤ 252) (hl : value N ≤ t) (hu : t < value (N + 1)) {a n b : Nat} (hab : a + b ≤ 255)
    (hn : n = if a + b ≤ N then a + b else a) :
    step (t : EReal) (BitVec.ofNat 32 b) (BitVec.ofNat 32 a) = BitVec.ofNat 32 n := by
  unfold step
  have : IntOp.addi (BitVec.ofNat 32 a) (BitVec.ofNat 32 b) = BitVec.ofNat 32 (a + b) := (BitVec.ofNat_add a b).symm
  rw [this, hn]
  by_cases h : a + b ≤ N
  · rw [if_pos ((float_le_iff hN hl hu hab).mpr h), if_pos h]
  · rw [if_neg (fun hc => h ((float_le_iff hN hl hu hab).mp hc)), if_neg h]

/-- The bisection finds the lower of the two. -/
theorem lower_upper {t : ℝ} {N : Nat} (hN : N ≤ 252) (hl : value N ≤ t) (hu : t < value (N + 1)) :
    lower (t : EReal) (upper (t : EReal)) = BitVec.ofNat 32 N := by
  unfold lower upper
  have e : ∀ b a n : Nat, a + b ≤ 255 → (n = if a + b ≤ N then a + b else a) →
      step (t : EReal) (BitVec.ofNat 32 b) (BitVec.ofNat 32 a) = BitVec.ofNat 32 n :=
    fun b a n h hn => step_eq hN hl hu h hn
  rw [e 128 0 (N / 128 * 128) (by omega) (by split_ifs <;> omega),
    e 64 _ (N / 64 * 64) (by omega) (by split_ifs <;> omega),
    e 32 _ (N / 32 * 32) (by omega) (by split_ifs <;> omega),
    e 16 _ (N / 16 * 16) (by omega) (by split_ifs <;> omega),
    e 8 _ (N / 8 * 8) (by omega) (by split_ifs <;> omega),
    e 4 _ (N / 4 * 4) (by omega) (by split_ifs <;> omega),
    e 2 _ (N / 2 * 2) (by omega) (by split_ifs <;> omega),
    e 1 _ N (by omega) (by split_ifs <;> omega)]

theorem ofBits_two : Ideal.ofBits .f32 0x40000000#32 = ((2 : ℝ) : EReal) := by
  simp [Ideal.ofBits, Ideal.ieee, -EReal.coe_mul]; norm_num

theorem ofBits_neg126 : Ideal.ofBits .f32 0xC2FC0000#32 = ((-126 : ℝ) : EReal) := by
  simp [Ideal.ofBits, Ideal.ieee, -EReal.coe_mul]; norm_num

/-- The exponent of Spec.lean, for a positive range between two consecutive fields' values. -/
theorem exponent_eq {a : EReal} {t : ℝ} {N : Nat} (ha : a ≠ 0) (ht : Spec.range a = (t : EReal)) (h0 : 0 < t)
    (hl : value N ≤ t) (hu : t < value (N + 1)) : Spec.exponent a = (((N : ℝ) - 126 : ℝ) : EReal) := by
  have hlog2 : (0 : ℝ) < Real.log 2 := Real.log_pos (by norm_num)
  unfold Spec.exponent
  rw [if_neg ha, ht, ofBits_two, ofBits_neg126]
  have e1 : Ideal.log (t : EReal) = ((Real.log t : ℝ) : EReal) := by
    show (if t ≤ 0 then (⊥ : EReal) else _) = _
    rw [if_neg (not_le.mpr h0)]
  have e2 : Ideal.log ((2 : ℝ) : EReal) = ((Real.log 2 : ℝ) : EReal) := by
    show (if (2 : ℝ) ≤ 0 then (⊥ : EReal) else _) = _
    rw [if_neg (by norm_num)]
  have e3 : Ideal.div ((Real.log t : ℝ) : EReal) ((Real.log 2 : ℝ) : EReal) = ((Real.log t / Real.log 2 : ℝ) : EReal) := by
    unfold Ideal.div
    rw [if_neg (by exact_mod_cast hlog2.ne')]
    rw [← EReal.coe_inv, ← EReal.coe_mul]
    rw [div_eq_mul_inv]
  rw [e1, e2, e3]
  show max (((⌊Real.log t / Real.log 2⌋ : ℝ) : EReal) + 1) _ = _
  rw [show (1 : EReal) = ((1 : ℝ) : EReal) from rfl, ← EReal.coe_add]
  have hub : ⌊Real.log t / Real.log 2⌋ < (N : ℤ) - 126 := by
    have hv : value (N + 1) = (2 : ℝ) ^ ((N : ℤ) - 126) := by
      unfold value; rw [if_neg (by omega)]; congr 1; push_cast; ring
    rw [Int.floor_lt, div_lt_iff₀ hlog2, ← Real.log_zpow, ← hv]
    exact Real.log_lt_log h0 hu
  rcases Nat.eq_zero_or_pos N with h | h
  · subst h
    rw [max_eq_right]
    · congr 1; norm_num
    · have : ⌊Real.log t / Real.log 2⌋ + 1 ≤ -126 := by push_cast at hub; omega
      rw [EReal.coe_le_coe_iff]
      exact_mod_cast this
  · have hlb : (N : ℤ) - 127 ≤ ⌊Real.log t / Real.log 2⌋ := by
      have hv : value N = (2 : ℝ) ^ ((N : ℤ) - 127) := by unfold value; rw [if_neg (by omega)]
      rw [Int.le_floor, le_div_iff₀ hlog2, ← Real.log_zpow, ← hv]
      exact Real.log_le_log (by rw [hv]; positivity) hl
    have : ⌊Real.log t / Real.log 2⌋ = (N : ℤ) - 127 := by omega
    rw [this, max_eq_left]
    · congr 1; push_cast; ring
    · rw [EReal.coe_le_coe_iff]
      push_cast
      have : (1 : ℝ) ≤ N := by exact_mod_cast h
      linarith

theorem exp2_int (z : ℤ) : Ideal.exp2 (((z : ℝ) : ℝ) : EReal) = (((2 : ℝ) ^ z : ℝ) : EReal) := by
  show ((Real.rpow 2 (z : ℝ) : ℝ) : EReal) = _
  congr 1
  exact Real.rpow_intCast 2 z

/-- The scale and its reciprocal made from the exponent's bits are two to the exponent and to its negative. -/
theorem scale_inv {a : EReal} (ha : 0 ≤ Spec.range a) (hlt : Spec.range a < (((2 : ℝ) ^ (126 : ℤ) : ℝ) : EReal))
    (hz : Spec.range a = 0 ↔ a = 0) :
    float (IntOp.addi (expBits (Spec.range a) (upper (Spec.range a))) 127#32) = Spec.scale a ∧
    float (IntOp.addi (IntOp.subi 0#32 (expBits (Spec.range a) (upper (Spec.range a)))) 127#32) = Spec.inv a := by
  obtain ⟨t, ht⟩ : ∃ t : ℝ, Spec.range a = (t : EReal) := by
    refine ⟨(Spec.range a).toReal, (EReal.coe_toReal ?_ ?_).symm⟩
    · intro h; rw [h] at hlt; exact absurd hlt (not_lt.mpr le_top)
    · intro h; rw [h] at ha; exact absurd ha (by simp)
  have h0 : 0 ≤ t := by rw [ht] at ha; exact_mod_cast ha
  have h1 : t < (2 : ℝ) ^ (126 : ℤ) := by rw [ht] at hlt; exact_mod_cast hlt
  unfold Spec.scale Spec.inv expBits
  by_cases hc : a = 0
  · have e : Spec.exponent a = (((0 : ℤ) : ℝ) : EReal) := by unfold Spec.exponent; rw [if_pos hc]; simp
    rw [if_pos (hz.mpr hc), e]
    have e127 : ∀ f : BitVec 32, f = BitVec.ofNat 32 127 → float f = (((2 : ℝ) ^ (0 : ℤ) : ℝ) : EReal) := by
      rintro _ rfl
      rw [float_eq (by norm_num)]; simp [value]
    have ez : (0 : EReal) - (((0 : ℤ) : ℝ) : EReal) = (((0 : ℤ) : ℝ) : EReal) := by simp
    rw [ez, exp2_int]
    exact ⟨e127 _ (by decide), e127 _ (by decide)⟩
  · have hpos : 0 < t := by
      rcases h0.lt_or_eq with h | h
      · exact h
      · exact absurd (hz.mp (by rw [ht, ← h]; rfl)) hc
    rw [if_neg (fun h => hc (hz.mp h)), ht]
    obtain ⟨N, hN, hl, hu⟩ := exists_field t h0 h1
    rw [lower_upper hN hl hu, exponent_eq hc ht hpos hl hu]
    have e1 : IntOp.addi (IntOp.subi (BitVec.ofNat 32 N) 126#32) 127#32 = BitVec.ofNat 32 (N + 1) := by
      have : ∀ n : Fin 253, IntOp.addi (IntOp.subi (BitVec.ofNat 32 n.val) 126#32) 127#32 = BitVec.ofNat 32 (n.val + 1) := by
        decide +kernel
      exact this ⟨N, by omega⟩
    have e2 : IntOp.addi (IntOp.subi 0#32 (IntOp.subi (BitVec.ofNat 32 N) 126#32)) 127#32 = BitVec.ofNat 32 (253 - N) := by
      have : ∀ n : Fin 253, IntOp.addi (IntOp.subi 0#32 (IntOp.subi (BitVec.ofNat 32 n.val) 126#32)) 127#32 = BitVec.ofNat 32 (253 - n.val) := by
        decide +kernel
      exact this ⟨N, by omega⟩
    rw [e1, e2, float_eq (by omega), float_eq (by omega)]
    constructor
    · rw [show ((N : ℝ) - 126 : ℝ) = (((N : ℤ) - 126 : ℤ) : ℝ) by push_cast; ring, exp2_int]
      congr 1; unfold value; rw [if_neg (by omega)]; congr 1; push_cast; ring
    · rw [show (0 : EReal) - (((N : ℝ) - 126 : ℝ) : EReal) = (((126 - (N : ℤ) : ℤ) : ℝ) : EReal) by
        rw [zero_sub, ← EReal.coe_neg]; congr 1; push_cast; ring, exp2_int]
      congr 1; unfold value; rw [if_neg (by omega)]; congr 1; push_cast; omega

end Cert.Quant

end
-- ==== Proof.Rows.lean ====
/-
  The kernel body's rows over the extended reals: each row of the block is normalised, scaled and clipped as Spec.lean has it.
-/
module

public import proofs.«01_k».proof.Proof.Body
public import proofs.«01_k».proof.Proof.Range
public import proofs.«01_k».proof.Proof.Quant
public import Idealize.ShloMosaic.Lib.Pipeline.ValueKit

@[expose] public section

set_option maxRecDepth 16384

noncomputable section

namespace Cert.KernelIdeal.Body

open Cert.KernelIdeal Cert.KernelIdeal.Gen
open Idealize.ShloMosaic

/-- A row of the input block. -/
def row (x0 : Vec Ideal S256x4096 .bf16) (r : Fin 256) : Fin 4096 → EReal := fun k => x0 (ix2 r k)

/-- The gain. -/
def gain (x1 : Vec Ideal S1x4096 .f32) : Fin 4096 → EReal := fun k => x1 (ix2 0 k)

/-- Row `j` of the group at row `o`, in the block. -/
def rowAt (o : Nat) (h : ∀ a, (![o, 0] : Fin 2 → Nat) a + S32x4096.size a ≤ S256x4096.size a) (j : Fin 32) : Fin 256 :=
  ⟨o + j.val, by have := h 0; change o + 32 ≤ 256 at this; omega⟩

theorem rowRect_emb (o : Nat) (h) (j : S32x4096.Idx) : (rowRect o h).emb j = ix2 (rowAt o h (j 0)) (j 1) := by
  refine funext fun a => Fin.ext ?_
  fin_cases a
  · exact congrArg (o + ·) (Nat.one_mul _)
  · exact (congrArg (0 + ·) (Nat.one_mul _)).trans (Nat.zero_add _)

theorem ld_rows {e : EltTy} (x : Vec Ideal S256x4096 e) (o : Nat) (h) (j : Fin 32) (k : Fin 4096) :
    View.ld x (rowRect o h) (ix2 j k) = x (ix2 (rowAt o h j) k) := congrArg x (rowRect_emb o h (ix2 j k))

theorem rowAt_eq {o : Nat} {h} {j : Fin 32} {r : Fin 256} (e : o + j.val = r.val) : rowAt o h j = r := Fin.ext e

/-- The sum of a group's row's squares. -/
def sq (b : Vec Ideal S32x4096 .bf16) (j : Fin 32) : EReal := ∑ k, b (ix2 j k) * b (ix2 j k)

/-- The reciprocals from the eight groups' sums of squares. -/
theorem recip_groups (p0 p1 p2 p3 p4 p5 : FVec Ideal S32x1 .f32) (a b : Vec Ideal S32x4096 .bf16) (S : Fin 256 → EReal)
    (h0 : ∀ j q, 0 + j.val = q.val → p0 (ix2 j 0) = S q)
    (h1 : ∀ j q, 32 + j.val = q.val → p1 (ix2 j 0) = S q)
    (h2 : ∀ j q, 64 + j.val = q.val → p2 (ix2 j 0) = S q)
    (h3 : ∀ j q, 96 + j.val = q.val → p3 (ix2 j 0) = S q)
    (h4 : ∀ j q, 128 + j.val = q.val → p4 (ix2 j 0) = S q)
    (h5 : ∀ j q, 160 + j.val = q.val → p5 (ix2 j 0) = S q)
    (h6 : ∀ j q, 192 + j.val = q.val → sq a j = S q) (h7 : ∀ j q, 224 + j.val = q.val → sq b j = S q) (r : Fin 256) :
    k0_pay8 p0 p1 p2 p3 p4 p5 a b (ix2 r 0)
      = Ideal.rsqrt (S r * Ideal.ofBits .f32 0x39800000#32 + Ideal.ofBits .f32 0x358637BD#32) := by
  pointwise [k0_pay8]
  refine congrArg (fun y => Ideal.rsqrt (y * _ + _)) ?_
  split_ifs
  all_goals first
    | exact h0 _ _ (by first | omega | (simp only; omega))
    | exact h1 _ _ (by first | omega | (simp only; omega))
    | exact h2 _ _ (by first | omega | (simp only; omega))
    | exact h3 _ _ (by first | omega | (simp only; omega))
    | exact h4 _ _ (by first | omega | (simp only; omega))
    | exact h5 _ _ (by first | omega | (simp only; omega))
    | exact h6 _ _ (by first | omega | (simp only; omega))
    | exact h7 _ _ (by first | omega | (simp only; omega))

/-- The sum of a row's squares, from its group. -/
theorem sq_ld (x0 : Vec Ideal S256x4096 .bf16) (o : Nat) (h) (j : Fin 32) (q : Fin 256) (e : o + j.val = q.val) :
    sq (View.ld x0 (rowRect o h)) j = Spec.sumSq (row x0 q) := by
  obtain rfl := rowAt_eq (h := h) e
  exact Finset.sum_congr rfl fun k _ => by rw [ld_rows]; rfl

/-- The row's reciprocal root mean square. -/
theorem recipRms_apply (x0 : Vec Ideal S256x4096 .bf16) (r : Fin 256) : recipRms x0 (ix2 r 0) = Spec.recip (row x0 r) := by
  unfold Spec.recip
  rw [Range.div_4096]
  have e2 : ∀ (b : Vec Ideal S32x4096 .bf16) (j : Fin 32), k0_pay2 b (ix2 j 0) = sq b j := fun b j => by pointwise [k0_pay2]; rfl
  have e3 : ∀ (b : Vec Ideal S32x4096 .bf16) (j : Fin 32), k0_pay3 b (ix2 j 0) = sq b j := fun b j => by pointwise [k0_pay3]; rfl
  have e4 : ∀ (b : Vec Ideal S32x4096 .bf16) (j : Fin 32), k0_pay4 b (ix2 j 0) = sq b j := fun b j => by pointwise [k0_pay4]; rfl
  have e5 : ∀ (b : Vec Ideal S32x4096 .bf16) (j : Fin 32), k0_pay5 b (ix2 j 0) = sq b j := fun b j => by pointwise [k0_pay5]; rfl
  have e6 : ∀ (b : Vec Ideal S32x4096 .bf16) (j : Fin 32), k0_pay6 b (ix2 j 0) = sq b j := fun b j => by pointwise [k0_pay6]; rfl
  have e7 : ∀ (b : Vec Ideal S32x4096 .bf16) (j : Fin 32), k0_pay7 b (ix2 j 0) = sq b j := fun b j => by pointwise [k0_pay7]; rfl
  exact recip_groups _ _ _ _ _ _ _ _ (fun q => Spec.sumSq (row x0 q))
    (fun j q e => (e2 _ j).trans (sq_ld x0 _ _ j q e)) (fun j q e => (e3 _ j).trans (sq_ld x0 _ _ j q e))
    (fun j q e => (e4 _ j).trans (sq_ld x0 _ _ j q e)) (fun j q e => (e5 _ j).trans (sq_ld x0 _ _ j q e))
    (fun j q e => (e6 _ j).trans (sq_ld x0 _ _ j q e)) (fun j q e => (e7 _ j).trans (sq_ld x0 _ _ j q e))
    (fun j q e => sq_ld x0 _ _ j q e) (fun j q e => sq_ld x0 _ _ j q e) r

/-- A group's rows are the normalised rows. -/
theorem group_apply (x0 : Vec Ideal S256x4096 .bf16) (x1 : Vec Ideal S1x4096 .f32) (o : Nat) (hs h) (j : Fin 32) (k : Fin 4096) :
    group x0 x1 o hs h (ix2 j k) = Spec.norm (row x0 (rowAt o h j)) (gain x1) k := by
  have eg : ∀ k, gainRow x1 (ix2 0 k) = x1 (ix2 0 k) := fun k => by pointwise [gainRow, k0_pay1]
  unfold group
  pointwise [normRows]
  rw [eg]
  show x0 (ix2 (rowAt o h j) k) * recipRms x0 (ix2 (rowAt o h j) 0) * _ = _
  rw [recipRms_apply]
  rfl

/-- The group's largest absolute values. -/
theorem peak_apply (x0 : Vec Ideal S256x4096 .bf16) (x1 : Vec Ideal S1x4096 .f32) (o : Nat) (hs h) (j : Fin 32) :
    Finset.fold max (Ideal.ofBits .f32 0xFF800000#32) (fun x => FloatOps.absf (group x0 x1 o hs h (ix2 j x))) Finset.univ
      = Spec.rowPeak (row x0 (rowAt o h j)) (gain x1) := by
  have eb : Ideal.ofBits .f32 0xFF800000#32 = (⊥ : EReal) := by simp [Ideal.ofBits, Ideal.ieee]
  simp only [group_apply, eb]
  rfl

theorem pay14_apply (v : FVec Ideal S32x4096 .f32) (j : Fin 32) : k0_pay14 v (ix2 j 0)
    = Finset.fold max (Ideal.ofBits .f32 0xFF800000#32) (fun x => FloatOps.absf (v (ix2 j x))) Finset.univ := by
  pointwise [k0_pay14]

/-- The row's range. -/
theorem rowRange_apply (x0 : Vec Ideal S256x4096 .bf16) (x1 : Vec Ideal S1x4096 .f32) (r : Fin 256) :
    rowRange x0 x1 (ix2 r 0) = Spec.range (Spec.rowPeak (row x0 r) (gain x1)) := by
  have s : ∀ q : Fin 256, q = r → Spec.rowPeak (row x0 q) (gain x1) = Spec.rowPeak (row x0 r) (gain x1) := by rintro q rfl; rfl
  unfold rowRange
  pointwise [k0_pay32]
  refine congrArg (fun y => y * _) ?_
  simp only [pay14_apply, peak_apply]
  split_ifs <;> exact s _ (rowAt_eq (by first | omega | (simp only; omega)))

/-- The exponent as found by bisection. -/
theorem rowExp_apply (x0 : Vec Ideal S256x4096 .bf16) (x1 : Vec Ideal S1x4096 .f32) (r : Fin 256) :
    rowExp x0 x1 (ix2 r 0) = Quant.expBits (rowRange x0 x1 (ix2 r 0)) (Quant.upper (rowRange x0 x1 (ix2 r 0))) := by
  have e34 : ∀ (t : FVec Ideal S256x1 .f32) (f : IVec S256x1 32) (i : S256x1.Idx), k0_pay34 t f 8#32 i = Quant.expBits (t i) (f i) := by
    intro t f i
    pointwise [k0_pay34]
    rfl
  have e33 : ∀ (p0 p1 p2 p3 p4 p5 p6 : FVec Ideal S32x1 .f32) (g : FVec Ideal S32x4096 .f32) (i : S256x1.Idx),
      k0_pay33 p0 p1 p2 p3 p4 p5 p6 g i = Quant.upper (k0_pay32 p0 p1 p2 p3 p4 p5 p6 g i) := by
    intro p0 p1 p2 p3 p4 p5 p6 g i
    pointwise [k0_pay33]
    rfl
  unfold rowExp
  rw [e34, e33]
  rfl

/-- The gain's entries are finite. -/
def Finite (g : Fin 4096 → EReal) : Prop := ∀ k, max (g k) (-g k) ≤ Ideal.ofBits .f32 0x7F7FFFFF#32

/-- The row's scale. -/
theorem rowScale_apply (x0 : Vec Ideal S256x4096 .bf16) (x1 : Vec Ideal S1x4096 .f32) (hg : Finite (gain x1)) (r : Fin 256) :
    rowScale x0 x1 (ix2 r 0) = Spec.scale (Spec.rowPeak (row x0 r) (gain x1)) := by
  obtain ⟨h0, h1, h2⟩ := Range.range_bounds (x := row x0 r) hg
  rw [← (Quant.scale_inv h0 h1 h2).1, ← rowRange_apply, ← rowExp_apply]
  unfold rowScale
  pointwise [k0_pay36]
  rfl

/-- The row's reciprocal scale. -/
theorem rowInv_apply (x0 : Vec Ideal S256x4096 .bf16) (x1 : Vec Ideal S1x4096 .f32) (hg : Finite (gain x1)) (r : Fin 256) :
    rowInv x0 x1 (ix2 r 0) = Spec.inv (Spec.rowPeak (row x0 r) (gain x1)) := by
  obtain ⟨h0, h1, h2⟩ := Range.range_bounds (x := row x0 r) hg
  rw [← (Quant.scale_inv h0 h1 h2).2, ← rowRange_apply, ← rowExp_apply]
  unfold rowInv
  pointwise [k0_pay37]
  rfl

/-- Eight groups of rows cover the block. -/
theorem cover_groups {e : EltTy} (p0 p1 p2 p3 p4 p5 p6 p7 : Vec Ideal S32x4096 e) (y : S256x4096.Idx) :
    ∃ pc ∈ ([⟨rowRect 224 inb_S256x4096_S32x4096_224_0, p7⟩, ⟨rowRect 192 inb_S256x4096_S32x4096_192_0, p6⟩, ⟨rowRect 160 inb_S256x4096_S32x4096_160_0, p5⟩, ⟨rowRect 128 inb_S256x4096_S32x4096_128_0, p4⟩, ⟨rowRect 96 inb_S256x4096_S32x4096_96_0, p3⟩, ⟨rowRect 64 inb_S256x4096_S32x4096_64_0, p2⟩, ⟨rowRect 32 inb_S256x4096_S32x4096_32_0, p1⟩, ⟨rowRect 0 inb_S256x4096_S32x4096_0_0, p0⟩] : List (View.Piece (Elt Ideal) S256x4096 e)), y ∈ pc.1.set :=
  View.cover_of_tiled [⟨rowRect 224 inb_S256x4096_S32x4096_224_0, p7⟩, ⟨rowRect 192 inb_S256x4096_S32x4096_192_0, p6⟩, ⟨rowRect 160 inb_S256x4096_S32x4096_160_0, p5⟩, ⟨rowRect 128 inb_S256x4096_S32x4096_128_0, p4⟩, ⟨rowRect 96 inb_S256x4096_S32x4096_96_0, p3⟩, ⟨rowRect 64 inb_S256x4096_S32x4096_64_0, p2⟩, ⟨rowRect 32 inb_S256x4096_S32x4096_32_0, p1⟩, ⟨rowRect 0 inb_S256x4096_S32x4096_0_0, p0⟩] S32x4096.size (by rfl) y

/-- Eight groups of rows that agree with one function of the block's index are that function. -/
theorem canon_groups {e : EltTy} (G : S256x4096.Idx → Elt Ideal e) (p0 p1 p2 p3 p4 p5 p6 p7 : Vec Ideal S32x4096 e)
    (h0 : ∀ j k, p0 (ix2 j k) = G (ix2 (rowAt 0 inb_S256x4096_S32x4096_0_0 j) k))
    (h1 : ∀ j k, p1 (ix2 j k) = G (ix2 (rowAt 32 inb_S256x4096_S32x4096_32_0 j) k))
    (h2 : ∀ j k, p2 (ix2 j k) = G (ix2 (rowAt 64 inb_S256x4096_S32x4096_64_0 j) k))
    (h3 : ∀ j k, p3 (ix2 j k) = G (ix2 (rowAt 96 inb_S256x4096_S32x4096_96_0 j) k))
    (h4 : ∀ j k, p4 (ix2 j k) = G (ix2 (rowAt 128 inb_S256x4096_S32x4096_128_0 j) k))
    (h5 : ∀ j k, p5 (ix2 j k) = G (ix2 (rowAt 160 inb_S256x4096_S32x4096_160_0 j) k))
    (h6 : ∀ j k, p6 (ix2 j k) = G (ix2 (rowAt 192 inb_S256x4096_S32x4096_192_0 j) k))
    (h7 : ∀ j k, p7 (ix2 j k) = G (ix2 (rowAt 224 inb_S256x4096_S32x4096_224_0 j) k))
    (y : S256x4096.Idx) :
    View.canon ([⟨rowRect 224 inb_S256x4096_S32x4096_224_0, p7⟩, ⟨rowRect 192 inb_S256x4096_S32x4096_192_0, p6⟩, ⟨rowRect 160 inb_S256x4096_S32x4096_160_0, p5⟩, ⟨rowRect 128 inb_S256x4096_S32x4096_128_0, p4⟩, ⟨rowRect 96 inb_S256x4096_S32x4096_96_0, p3⟩, ⟨rowRect 64 inb_S256x4096_S32x4096_64_0, p2⟩, ⟨rowRect 32 inb_S256x4096_S32x4096_32_0, p1⟩, ⟨rowRect 0 inb_S256x4096_S32x4096_0_0, p0⟩] : List (View.Piece (Elt Ideal) S256x4096 e)) y = G y := by
  refine View.canon_apply_of_pieces G _ ?_ y (cover_groups p0 p1 p2 p3 p4 p5 p6 p7 y)
  intro p hp j
  simp only [List.mem_cons, List.not_mem_nil, or_false] at hp
  have key : ∀ (o : Nat) (h) (p : Vec Ideal S32x4096 e), (∀ j k, p (ix2 j k) = G (ix2 (rowAt o h j) k)) →
      ∀ j : S32x4096.Idx, p j = G ((rowRect o h).emb j) := fun o h p hp j => by
    rw [rowRect_emb]; exact (congrArg p (ValueIdx.eq_ix2 j)).trans (hp (j 0) (j 1))
  rcases hp with rfl | rfl | rfl | rfl | rfl | rfl | rfl | rfl
  exacts [key _ _ _ h7 j, key _ _ _ h6 j, key _ _ _ h5 j, key _ _ _ h4 j, key _ _ _ h3 j, key _ _ _ h2 j, key _ _ _ h1 j, key _ _ _ h0 j]

/-- The normalised rows in the scratch buffer. -/
theorem back_apply (x0 : Vec Ideal S256x4096 .bf16) (x1 : Vec Ideal S1x4096 .f32) (o : Nat) (h) (j : Fin 32) (k : Fin 4096) :
    back x0 x1 o h (ix2 j k) = Spec.norm (row x0 (rowAt o h j)) (gain x1) k := by
  have hc : ∀ (o : Nat) (hs h) (j : Fin 32) (k : Fin 4096), shapeCast S32x4096 (group x0 x1 o hs h) shapeCasts_S32x4096_S32x4096 (ix2 j k)
      = Spec.norm (row x0 (rowAt o h j)) (gain x1) k := fun o hs h j k => by
    rw [shapeCast_self]; exact group_apply x0 x1 o hs h j k
  refine (canon_groups (e := .f32) (fun y => Spec.norm (row x0 (y 0)) (gain x1) (y 1)) _ _ _ _ _ _ _ _
    (hc _ _ _) (hc _ _ _) (hc _ _ _) (hc _ _ _) (hc _ _ _) (hc _ _ _) (hc _ _ _) (hc _ _ _) ((rowRect o h).emb (ix2 j k))).trans ?_
  rw [rowRect_emb]
  rfl

/-- The stored rows. -/
theorem codes_apply (x0 : Vec Ideal S256x4096 .bf16) (x1 : Vec Ideal S1x4096 .f32) (hg : Finite (gain x1)) (r : Fin 256) (k : Fin 4096) :
    codes x0 x1 (ix2 r k) = Spec.codes (row x0 r) (gain x1) k := by
  have hc : ∀ (o : Nat) (hs h) (j : Fin 32) (k : Fin 4096), clipRows (rowInv x0 x1) o hs (back x0 x1 o h) (ix2 j k)
      = Spec.codes (row x0 (rowAt o h j)) (gain x1) k := fun o hs h j k => by
    pointwise [clipRows]
    rw [back_apply]
    show min _ (max _ (_ * rowInv x0 x1 (ix2 (rowAt o h j) 0))) = _
    rw [rowInv_apply x0 x1 hg]
    rfl
  exact canon_groups (e := .fp8e4m3) (fun y => Spec.codes (row x0 (y 0)) (gain x1) (y 1)) _ _ _ _ _ _ _ _
    (hc _ _ _) (hc _ _ _) (hc _ _ _) (hc _ _ _) (hc _ _ _) (hc _ _ _) (hc _ _ _) (hc _ _ _) (ix2 r k)

/-- The projection. -/
theorem proj_apply (x0 : Vec Ideal S256x4096 .bf16) (x1 : Vec Ideal S1x4096 .f32) (x2 : Vec Ideal S4096x1536 .fp8e4m3)
    (x3 : Vec Ideal S1x1536 .f32) (hg : Finite (gain x1)) (r : Fin 256) (c : Fin 1536) :
    proj x0 x1 x2 x3 (ix2 r c) = Spec.proj (row x0 r) (gain x1) (fun k => x2 (ix2 k c)) (x3 (ix2 0 c)) := by
  unfold proj
  pointwise [project, k0_pay48]
  simp only [codes_apply x0 x1 hg, rowScale_apply x0 x1 hg]
  rfl

end Cert.KernelIdeal.Body

end
-- ==== Proof.Heads.lean ====
/-
  The kernel body's heads over the extended reals: each query and key head is the projection's head rotated by the row's angles,
  each value head the projection's head.
-/
module

public import proofs.«01_k».proof.Proof.Rows

@[expose] public section

set_option maxRecDepth 16384

noncomputable section

namespace Cert.KernelIdeal.Body

open Cert.KernelIdeal Cert.KernelIdeal.Gen
open Idealize.ShloMosaic

/-- A row of the projection. -/
def prow (y : FVec Ideal S256x1536 .f32) (r : Fin 256) : Fin 1536 → EReal := fun c => y (ix2 r c)

/-- A row's angles, from its position and the first half of the frequencies. -/
def angles (x4 : Vec Ideal S256x1 .i32) (x5 : Vec Ideal S1x128 .f32) (r : Fin 256) : Fin 64 → EReal :=
  fun e => Spec.angle (x4 (ix2 r 0)) (x5 (ix2 0 ⟨e.val, by omega⟩))

/-- The second half of the frequencies repeats the first. -/
def Repeats (x5 : Vec Ideal S1x128 .f32) : Prop :=
  ∀ e : Fin 64, x5 (ix2 0 ⟨e.val + 64, by omega⟩) = x5 (ix2 0 ⟨e.val, by omega⟩)

theorem cosTable_apply (x4 : Vec Ideal S256x1 .i32) (x5 : Vec Ideal S1x128 .f32) (r : Fin 256) (d : Fin 128) :
    cosTable x4 x5 (ix2 r d) = Ideal.cos (Spec.angle (x4 (ix2 r 0)) (x5 (ix2 0 d))) := by
  pointwise [cosTable, k0_pay52, k0_pay49, k0_pay50, k0_pay51]
  rfl

theorem sinTable_apply (x4 : Vec Ideal S256x1 .i32) (x5 : Vec Ideal S1x128 .f32) (r : Fin 256) (d : Fin 128) :
    sinTable x4 x5 (ix2 r d) = if d.val < 64 then - Ideal.sin (Spec.angle (x4 (ix2 r 0)) (x5 (ix2 0 d)))
      else Ideal.sin (Spec.angle (x4 (ix2 r 0)) (x5 (ix2 0 d))) := by
  have hc : ∀ d : Fin 128, IntOp.cmpi .slt (BitVec.ofNat 32 d.val) 64#32 = if d.val < 64 then 1#1 else 0#1 := by decide +kernel
  pointwise [sinTable, k0_pay53, k0_pay49, k0_pay50, k0_pay51]
  rw [hc, zero_sub]
  by_cases h : d.val < 64
  · rw [if_pos h, if_pos h]; rfl
  · rw [if_neg h, if_neg h]; rfl

/-- A rotated head. -/
theorem rotHead_apply (y : FVec Ideal S256x1536 .f32) (x4 : Vec Ideal S256x1 .i32) (x5 : Vec Ideal S1x128 .f32) (hx : Repeats x5)
    (o : Nat) (ho : o + 128 ≤ 1536) (hs) (r : Fin 256) (d : Fin 128) :
    rotHead y (cosTable x4 x5) (sinTable x4 x5) o hs (ix3 r 0 d)
      = Spec.rotate (Spec.headAt (prow y r) o) (angles x4 x5 r) d := by
  have hy : ∀ (n m : Nat) (hn : n < 1536), n = o + m → y (ix2 r ⟨n, hn⟩) = prow y r (Fin.ofNat 1536 (o + m)) := by
    rintro n m hn rfl
    exact congrArg (fun c => y (ix2 r c)) (Fin.ext (Nat.mod_eq_of_lt hn).symm)
  pointwise [rotHead]
  rw [cosTable_apply, sinTable_apply]
  unfold Spec.rotate
  by_cases h : d.val < 64
  · rw [if_pos h, dif_pos h, hy _ d.val _ rfl, hy _ (d.val + 64) _ (by omega)]
    unfold Spec.rotLo
    rw [mul_neg, ← sub_eq_add_neg]
    rfl
  · have hf : x5 (ix2 0 d) = x5 (ix2 0 ⟨d.val - 64, by omega⟩) := by
      have := hx ⟨d.val - 64, by omega⟩
      rw [← this]
      exact congrArg (fun q => x5 (ix2 0 q)) (Fin.ext (by simp only; omega))
    rw [if_neg h, dif_neg h, hy _ d.val _ rfl, hy _ (d.val - 64) _ (by omega), hf]
    rfl

/-- A plain head. -/
theorem plainHead_apply (y : FVec Ideal S256x1536 .f32) (o : Nat) (ho : o + 128 ≤ 1536) (hs) (r : Fin 256) (d : Fin 128) :
    plainHead y o hs (ix3 r 0 d) = Spec.headAt (prow y r) o d := by
  pointwise [plainHead]
  exact congrArg (fun c => y (ix2 r c)) (Fin.ext (Nat.mod_eq_of_lt (by omega)).symm)

/-- Two heads side by side, each a function of its first column. -/
theorem pair_apply (a b : FVec Ideal S256x1x128 .bf16) (o : Nat) (V : Nat → Fin 256 → Fin 128 → EReal)
    (ha : ∀ r d, a (ix3 r 0 d) = V o r d) (hb : ∀ r d, b (ix3 r 0 d) = V (o + 128) r d) (r : Fin 256) (h : Fin 2) (d : Fin 128) :
    pair a b (ix3 r h d) = V (o + 128 * h.val) r d := by
  have e : pair a b (ix3 r h d) = if h.val = 0 then a (ix3 r 0 d) else b (ix3 r 0 d) := rfl
  rw [e]
  by_cases hh : h.val = 0
  · rw [if_pos hh]
    exact (ha r d).trans (congrArg (fun n => V n r d) (by omega))
  · rw [if_neg hh]
    exact (hb r d).trans (congrArg (fun n => V n r d) (by omega))

theorem headRect_emb (o : Nat) (h) (j : S256x2x128.Idx) (q : Fin 8) (e : o + (j 1).val = q.val) : (headRect o h).emb j = ix3 (j 0) q (j 2) := by
  refine funext fun a => Fin.ext ?_
  fin_cases a
  · exact (congrArg (0 + ·) (Nat.one_mul _)).trans (Nat.zero_add _)
  · exact (congrArg (o + ·) (Nat.one_mul _)).trans e
  · exact (congrArg (0 + ·) (Nat.one_mul _)).trans (Nat.zero_add _)

/-- Four pairs of heads that agree with one function of the first column are the eight heads of that function. -/
theorem canon_pairs (V : Nat → Fin 256 → Fin 128 → EReal) (p0 p1 p2 p3 : FVec Ideal S256x2x128 .bf16)
    (h0 : ∀ r h d, p0 (ix3 r h d) = V (0 + 128 * h.val) r d) (h1 : ∀ r h d, p1 (ix3 r h d) = V (256 + 128 * h.val) r d)
    (h2 : ∀ r h d, p2 (ix3 r h d) = V (512 + 128 * h.val) r d) (h3 : ∀ r h d, p3 (ix3 r h d) = V (768 + 128 * h.val) r d)
    (r : Fin 256) (h : Fin 8) (d : Fin 128) :
    View.canon ([⟨headRect 6 inb_S256x8x128_S256x2x128_0_6_0, p3⟩, ⟨headRect 4 inb_S256x8x128_S256x2x128_0_4_0, p2⟩, ⟨headRect 2 inb_S256x8x128_S256x2x128_0_2_0, p1⟩, ⟨headRect 0 inb_S256x8x128_S256x2x128_0_0_0, p0⟩] : List (View.Piece (Elt Ideal) S256x8x128 .bf16)) (ix3 r h d) = V (128 * h.val) r d := by
  refine View.canon_apply_of_pieces (Val := Elt Ideal) (e := .bf16) (fun y => V (128 * (y 1).val) (y 0) (y 2)) _ ?_ (ix3 r h d)
    (View.cover_of_tiled [⟨headRect 6 inb_S256x8x128_S256x2x128_0_6_0, p3⟩, ⟨headRect 4 inb_S256x8x128_S256x2x128_0_4_0, p2⟩, ⟨headRect 2 inb_S256x8x128_S256x2x128_0_2_0, p1⟩, ⟨headRect 0 inb_S256x8x128_S256x2x128_0_0_0, p0⟩] S256x2x128.size (by rfl) _)
  intro p hp j
  have key : ∀ (o : Nat) (h) (p : FVec Ideal S256x2x128 .bf16) (_ : o + 2 ≤ 8),
      (∀ r h d, p (ix3 r h d) = V (128 * o + 128 * h.val) r d) →
      ∀ j : S256x2x128.Idx, p j = V (128 * ((headRect o h).emb j 1).val) ((headRect o h).emb j 0) ((headRect o h).emb j 2) := fun o h p ho hp j => by
    have h1 : (j 1).val < 2 := (j 1).isLt
    rw [headRect_emb o h j ⟨o + (j 1).val, by omega⟩ rfl]
    refine (congrArg p (ValueIdx.eq_ix3 j)).trans ((hp (j 0) (j 1) (j 2)).trans ?_)
    exact congrArg (fun n => V n (j 0) (j 2)) (Nat.mul_add 128 o (j 1).val).symm
  simp only [List.mem_cons, List.not_mem_nil, or_false] at hp
  rcases hp with rfl | rfl | rfl | rfl
  · exact key 6 inb_S256x8x128_S256x2x128_0_6_0 p3 (by omega) h3 j
  · exact key 4 inb_S256x8x128_S256x2x128_0_4_0 p2 (by omega) h2 j
  · exact key 2 inb_S256x8x128_S256x2x128_0_2_0 p1 (by omega) h1 j
  · exact key 0 inb_S256x8x128_S256x2x128_0_0_0 p0 (by omega) h0 j

/-- The query block. -/
theorem queries_apply (y : FVec Ideal S256x1536 .f32) (x4 : Vec Ideal S256x1 .i32) (x5 : Vec Ideal S1x128 .f32) (hx : Repeats x5)
    (r : Fin 256) (h : Fin 8) (d : Fin 128) :
    queries y (cosTable x4 x5) (sinTable x4 x5) (ix3 r h d)
      = Spec.rotate (Spec.headAt (prow y r) (128 * h.val)) (angles x4 x5 r) d := by
  have hr := rotHead_apply y x4 x5 hx
  exact canon_pairs (fun o r d => Spec.rotate (Spec.headAt (prow y r) o) (angles x4 x5 r) d) _ _ _ _
    (pair_apply _ _ 0 (fun o r d => Spec.rotate (Spec.headAt (prow y r) o) (angles x4 x5 r) d) (hr 0 (by omega) _) (hr 128 (by omega) _)) (pair_apply _ _ 256 (fun o r d => Spec.rotate (Spec.headAt (prow y r) o) (angles x4 x5 r) d) (hr 256 (by omega) _) (hr 384 (by omega) _))
    (pair_apply _ _ 512 (fun o r d => Spec.rotate (Spec.headAt (prow y r) o) (angles x4 x5 r) d) (hr 512 (by omega) _) (hr 640 (by omega) _)) (pair_apply _ _ 768 (fun o r d => Spec.rotate (Spec.headAt (prow y r) o) (angles x4 x5 r) d) (hr 768 (by omega) _) (hr 896 (by omega) _)) r h d

/-- The key block. -/
theorem keys_apply (y : FVec Ideal S256x1536 .f32) (x4 : Vec Ideal S256x1 .i32) (x5 : Vec Ideal S1x128 .f32) (hx : Repeats x5)
    (r : Fin 256) (h : Fin 2) (d : Fin 128) :
    keys y (cosTable x4 x5) (sinTable x4 x5) (ix3 r h d)
      = Spec.rotate (Spec.headAt (prow y r) (1024 + 128 * h.val)) (angles x4 x5 r) d :=
  pair_apply _ _ 1024 (fun o r d => Spec.rotate (Spec.headAt (prow y r) o) (angles x4 x5 r) d)
    (rotHead_apply y x4 x5 hx 1024 (by omega) _) (rotHead_apply y x4 x5 hx 1152 (by omega) _) r h d

/-- The value block. -/
theorem values_apply (y : FVec Ideal S256x1536 .f32) (r : Fin 256) (h : Fin 2) (d : Fin 128) :
    values y (ix3 r h d) = Spec.headAt (prow y r) (1280 + 128 * h.val) d :=
  pair_apply _ _ 1280 (fun o r d => Spec.headAt (prow y r) o d) (plainHead_apply y 1280 (by omega) _) (plainHead_apply y 1408 (by omega) _) r h d

end Cert.KernelIdeal.Body

end
-- ==== Proof.Host.lean ====
/-
  What KernelIdeal's host operations leave in the arrays its kernel reads: the arguments reshaped, and the table of frequencies.
-/
module

public import proofs.«01_k».proof.Proof.Gen.KernelIdeal.Frame
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe

variable (m : (ℓ : Loc nD τ sig) → Buf (Elt Ideal) ℓ)

/-- The rows: the input reshaped. -/
theorem V_v1 (c : Dev nD) (i : S16384x4096.Idx) : V m c main_v1 i = shapeCast S16384x4096 (m ((c.tc : Thread nD τ).loc main_arg0)) shapeCasts_S2x8192x4096_S16384x4096 i := by
  unfold_abbrev_sides
  after_results
  rfl

/-- The gain: the argument as one row. -/
theorem V_v2 (c : Dev nD) (i : S1x4096.Idx) : V m c main_v2 i = shapeCast S1x4096 (m ((c.tc : Thread nD τ).loc main_arg1)) shapeCasts_S4096_S1x4096 i := by
  unfold_abbrev_sides
  after_results
  rfl

/-- The column scales as one row. -/
theorem V_v3 (c : Dev nD) (i : S1x1536.Idx) : V m c main_v3 i = shapeCast S1x1536 (m ((c.tc : Thread nD τ).loc main_arg3)) shapeCasts_S1536_S1x1536 i := by
  unfold_abbrev_sides
  after_results
  rfl

/-- The positions as one column. -/
theorem V_v4 (c : Dev nD) (i : S16384x1.Idx) : V m c main_v4 i = shapeCast S16384x1 (m ((c.tc : Thread nD τ).loc main_arg4)) shapeCasts_S2x8192_S16384x1 i := by
  unfold_abbrev_sides
  after_results
  rfl

/-- The frequencies: the literal table as one row. -/
theorem V_v0 (c : Dev nD) (e : Fin 128) : V m c main_v0 (ix2 (0 : Fin 1) e) = Ideal.ofBits .f32 (lit0 e) := by
  unfold_abbrev_sides
  after_results
  refine (broadcastInDim_apply _ _ _ _ (ix1 e) fun a => ?_).trans
    (congrArg (fun j => Ideal.ofBits .f32 (lit0 j)) (Fin.ext (Shape.rowMajor_val_one (ix1 e))))
  fin_cases a
  rfl

end Cert.KernelIdeal.Body

end
-- ==== Proof.Layer.lean ====
/-
  The layer's five results as functions of whole arrays: the input rows, the gain, the weights and their column scales, the
  positions and the frequencies.
-/
module

public import proofs.«01_k».proof.Proof.Spec

@[expose] public section

noncomputable section

namespace Cert.Layer

open Idealize.ShloMosaic

/-- The arrays the layer reads. -/
structure Args where
  /-- The rows of the input. -/
  x : Fin 16384 → Fin 4096 → EReal
  /-- The gain. -/
  g : Fin 4096 → EReal
  /-- The weights. -/
  w : Fin 4096 → Fin 1536 → EReal
  /-- The weights' column scales. -/
  s : Fin 1536 → EReal
  /-- The positions of the rows. -/
  p : Fin 16384 → BitVec 32
  /-- The frequencies. -/
  f : Fin 64 → EReal

/-- A projected row. -/
def proj (A : Args) (r : Fin 16384) : Fin 1536 → EReal := fun c => Spec.proj (A.x r) A.g (fun k => A.w k c) (A.s c)

/-- A row's angles. -/
def angles (A : Args) (r : Fin 16384) : Fin 64 → EReal := fun e => Spec.angle (A.p r) (A.f e)

/-- The rotated query heads, -/
def queries (A : Args) (r : Fin 16384) (h : Fin 8) (d : Fin 128) : EReal :=
  Spec.rotate (Spec.headAt (proj A r) (128 * h.val)) (angles A r) d

/-- the rotated key heads, -/
def keys (A : Args) (r : Fin 16384) (h : Fin 2) (d : Fin 128) : EReal :=
  Spec.rotate (Spec.headAt (proj A r) (1024 + 128 * h.val)) (angles A r) d

/-- the value heads, -/
def values (A : Args) (r : Fin 16384) (h : Fin 2) (d : Fin 128) : EReal := Spec.headAt (proj A r) (1280 + 128 * h.val) d

/-- the stored rows, and -/
def codes (A : Args) (r : Fin 16384) (k : Fin 4096) : EReal := Spec.codes (A.x r) A.g k

/-- their scales. -/
def scales (A : Args) (r : Fin 16384) : EReal := Spec.scale (Spec.rowPeak (A.x r) A.g)

end Cert.Layer

end
-- ==== Proof.Arrays.lean ====
/-
  The kernel's five result arrays after its run: at each of the 64 grid points it reads 256 rows of the input and of the positions
  and writes the same rows of the results, the layer's functions of the arrays.
-/
module

public import proofs.«01_k».proof.Proof.Run
public import proofs.«01_k».proof.Proof.Heads
public import proofs.«01_k».proof.Proof.Host
public import proofs.«01_k».proof.Proof.Layer

@[expose] public section

set_option maxRecDepth 16384

noncomputable section

namespace Cert.KernelIdeal.Body

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The second half of the frequencies, and the first. -/
abbrev hi (e : Fin 64) : Fin 128 := ⟨e.val + 64, by omega⟩
abbrev lo (e : Fin 64) : Fin 128 := ⟨e.val, by omega⟩

/-- The arrays the layer reads, as the run finds them. -/
def args (c : Dev nD) : Layer.Args where
  x r k := V m c main_v1 (ix2 r k)
  g k := V m c main_v2 (ix2 (0 : Fin 1) k)
  w k j := V m c main_arg2 (ix2 k j)
  s j := V m c main_v3 (ix2 (0 : Fin 1) j)
  p r := V m c main_v4 (ix2 r (0 : Fin 1))
  f e := V m c main_v0 (ix2 (0 : Fin 1) (lo e))

/-- Row `r` of point `t`'s rows. -/
def rowOf (t : Fin cfg0.N) (r : Fin 256) : Fin 16384 := ⟨t.val * 256 + r.val, by have h : t.val < 64 := t.isLt; omega⟩

/-! ## Where a block's entries lie in its array -/

theorem index0 : ∀ t : Fin grid0.N, win0_0.index t 0 = t.val ∧ win0_0.index t 1 = 0 := by decide +kernel

theorem emb0 (t : Fin cfg0.N) (r : Fin 256) (k : Fin 4096) : ((cfg0.win 0).blk t).view.emb (ix2 r k) = ix2 (rowOf t r) k := by
  have e := index0 t
  refine funext fun a => Fin.ext ?_
  fin_cases a
  · refine (Window.rect_emb_val win0_0 t (ix2 r k) 0).trans ?_
    rw [e.1]
    rfl
  · exact Window.rect_emb_val_of_index_zero win0_0 t 1 e.2 (ix2 r k)

theorem index1 : ∀ t : Fin grid0.N, win0_1.index t 0 = 0 ∧ win0_1.index t 1 = 0 := by decide +kernel

theorem emb1 (t : Fin cfg0.N) (j : Fin 1) (k : Fin 4096) : ((cfg0.win 1).blk t).view.emb (ix2 j k) = ix2 j k := by
  have e := index1 t
  refine funext fun a => Fin.ext ?_
  fin_cases a
  · exact Window.rect_emb_val_of_index_zero win0_1 t 0 e.1 (ix2 j k)
  · exact Window.rect_emb_val_of_index_zero win0_1 t 1 e.2 (ix2 j k)

theorem index2 : ∀ t : Fin grid0.N, win0_2.index t 0 = 0 ∧ win0_2.index t 1 = 0 := by decide +kernel

theorem emb2 (t : Fin cfg0.N) (j : Fin 4096) (k : Fin 1536) : ((cfg0.win 2).blk t).view.emb (ix2 j k) = ix2 j k := by
  have e := index2 t
  refine funext fun a => Fin.ext ?_
  fin_cases a
  · exact Window.rect_emb_val_of_index_zero win0_2 t 0 e.1 (ix2 j k)
  · exact Window.rect_emb_val_of_index_zero win0_2 t 1 e.2 (ix2 j k)

theorem index3 : ∀ t : Fin grid0.N, win0_3.index t 0 = 0 ∧ win0_3.index t 1 = 0 := by decide +kernel

theorem emb3 (t : Fin cfg0.N) (j : Fin 1) (k : Fin 1536) : ((cfg0.win 3).blk t).view.emb (ix2 j k) = ix2 j k := by
  have e := index3 t
  refine funext fun a => Fin.ext ?_
  fin_cases a
  · exact Window.rect_emb_val_of_index_zero win0_3 t 0 e.1 (ix2 j k)
  · exact Window.rect_emb_val_of_index_zero win0_3 t 1 e.2 (ix2 j k)

theorem index4 : ∀ t : Fin grid0.N, win0_4.index t 0 = t.val ∧ win0_4.index t 1 = 0 := by decide +kernel

theorem emb4 (t : Fin cfg0.N) (r : Fin 256) (k : Fin 1) : ((cfg0.win 4).blk t).view.emb (ix2 r k) = ix2 (rowOf t r) k := by
  have e := index4 t
  refine funext fun a => Fin.ext ?_
  fin_cases a
  · refine (Window.rect_emb_val win0_4 t (ix2 r k) 0).trans ?_
    rw [e.1]
    rfl
  · exact Window.rect_emb_val_of_index_zero win0_4 t 1 e.2 (ix2 r k)

theorem index5 : ∀ t : Fin grid0.N, win0_5.index t 0 = 0 ∧ win0_5.index t 1 = 0 := by decide +kernel

theorem emb5 (t : Fin cfg0.N) (j : Fin 1) (k : Fin 128) : ((cfg0.win 5).blk t).view.emb (ix2 j k) = ix2 j k := by
  have e := index5 t
  refine funext fun a => Fin.ext ?_
  fin_cases a
  · exact Window.rect_emb_val_of_index_zero win0_5 t 0 e.1 (ix2 j k)
  · exact Window.rect_emb_val_of_index_zero win0_5 t 1 e.2 (ix2 j k)

theorem index6 : ∀ t : Fin grid0.N, win0_6.index t 0 = t.val ∧ win0_6.index t 1 = 0 ∧ win0_6.index t 2 = 0 := by decide +kernel

theorem emb6 (t : Fin cfg0.N) (r : Fin 256) (h : Fin 8) (d : Fin 128) : ((cfg0.win 6).blk t).view.emb (ix3 r h d) = ix3 (rowOf t r) h d := by
  have e := index6 t
  refine funext fun a => Fin.ext ?_
  fin_cases a
  · refine (Window.rect_emb_val win0_6 t (ix3 r h d) 0).trans ?_
    rw [e.1]
    rfl
  · exact Window.rect_emb_val_of_index_zero win0_6 t 1 e.2.1 (ix3 r h d)
  · exact Window.rect_emb_val_of_index_zero win0_6 t 2 e.2.2 (ix3 r h d)

theorem index7 : ∀ t : Fin grid0.N, win0_7.index t 0 = t.val ∧ win0_7.index t 1 = 0 ∧ win0_7.index t 2 = 0 := by decide +kernel

theorem emb7 (t : Fin cfg0.N) (r : Fin 256) (h : Fin 2) (d : Fin 128) : ((cfg0.win 7).blk t).view.emb (ix3 r h d) = ix3 (rowOf t r) h d := by
  have e := index7 t
  refine funext fun a => Fin.ext ?_
  fin_cases a
  · refine (Window.rect_emb_val win0_7 t (ix3 r h d) 0).trans ?_
    rw [e.1]
    rfl
  · exact Window.rect_emb_val_of_index_zero win0_7 t 1 e.2.1 (ix3 r h d)
  · exact Window.rect_emb_val_of_index_zero win0_7 t 2 e.2.2 (ix3 r h d)

theorem index8 : ∀ t : Fin grid0.N, win0_8.index t 0 = t.val ∧ win0_8.index t 1 = 0 ∧ win0_8.index t 2 = 0 := by decide +kernel

theorem emb8 (t : Fin cfg0.N) (r : Fin 256) (h : Fin 2) (d : Fin 128) : ((cfg0.win 8).blk t).view.emb (ix3 r h d) = ix3 (rowOf t r) h d := by
  have e := index8 t
  refine funext fun a => Fin.ext ?_
  fin_cases a
  · refine (Window.rect_emb_val win0_8 t (ix3 r h d) 0).trans ?_
    rw [e.1]
    rfl
  · exact Window.rect_emb_val_of_index_zero win0_8 t 1 e.2.1 (ix3 r h d)
  · exact Window.rect_emb_val_of_index_zero win0_8 t 2 e.2.2 (ix3 r h d)

theorem index9 : ∀ t : Fin grid0.N, win0_9.index t 0 = t.val ∧ win0_9.index t 1 = 0 := by decide +kernel

theorem emb9 (t : Fin cfg0.N) (r : Fin 256) (k : Fin 4096) : ((cfg0.win 9).blk t).view.emb (ix2 r k) = ix2 (rowOf t r) k := by
  have e := index9 t
  refine funext fun a => Fin.ext ?_
  fin_cases a
  · refine (Window.rect_emb_val win0_9 t (ix2 r k) 0).trans ?_
    rw [e.1]
    rfl
  · exact Window.rect_emb_val_of_index_zero win0_9 t 1 e.2 (ix2 r k)

theorem index10 : ∀ t : Fin grid0.N, win0_10.index t 0 = t.val ∧ win0_10.index t 1 = 0 := by decide +kernel

theorem emb10 (t : Fin cfg0.N) (r : Fin 256) (k : Fin 1) : ((cfg0.win 10).blk t).view.emb (ix2 r k) = ix2 (rowOf t r) k := by
  have e := index10 t
  refine funext fun a => Fin.ext ?_
  fin_cases a
  · refine (Window.rect_emb_val win0_10 t (ix2 r k) 0).trans ?_
    rw [e.1]
    rfl
  · exact Window.rect_emb_val_of_index_zero win0_10 t 1 e.2 (ix2 r k)

/-! ## The blocks the kernel reads -/

theorem iblk0 (c : Dev nD) (t : Fin cfg0.N) (r : Fin 256) (k : Fin 4096) : iblk m c 0 t (ix2 r k) = V m c main_v1 (ix2 (rowOf t r) k) :=
  congrArg (V m c main_v1) (emb0 t r k)

theorem iblk4 (c : Dev nD) (t : Fin cfg0.N) (r : Fin 256) (k : Fin 1) : iblk m c 4 t (ix2 r k) = V m c main_v4 (ix2 (rowOf t r) k) :=
  congrArg (V m c main_v4) (emb4 t r k)

theorem iblk1 (c : Dev nD) (t : Fin cfg0.N) (j : Fin 1) (k : Fin 4096) : iblk m c 1 t (ix2 j k) = V m c main_v2 (ix2 j k) :=
  congrArg (V m c main_v2) (emb1 t j k)

theorem iblk2 (c : Dev nD) (t : Fin cfg0.N) (j : Fin 4096) (k : Fin 1536) : iblk m c 2 t (ix2 j k) = V m c main_arg2 (ix2 j k) :=
  congrArg (V m c main_arg2) (emb2 t j k)

theorem iblk3 (c : Dev nD) (t : Fin cfg0.N) (j : Fin 1) (k : Fin 1536) : iblk m c 3 t (ix2 j k) = V m c main_v3 (ix2 j k) :=
  congrArg (V m c main_v3) (emb3 t j k)

theorem iblk5 (c : Dev nD) (t : Fin cfg0.N) (j : Fin 1) (k : Fin 128) : iblk m c 5 t (ix2 j k) = V m c main_v0 (ix2 j k) :=
  congrArg (V m c main_v0) (emb5 t j k)

theorem row_iblk (c : Dev nD) (t : Fin cfg0.N) (r : Fin 256) : row (iblk m c 0 t) r = (args m c).x (rowOf t r) :=
  funext fun k => iblk0 m c t r k

theorem gain_iblk (c : Dev nD) (t : Fin cfg0.N) : gain (iblk m c 1 t) = (args m c).g :=
  funext fun k => iblk1 m c t 0 k

theorem repeats_iblk (c : Dev nD) (t : Fin cfg0.N) : Repeats (iblk m c 5 t) := fun e =>
  ((iblk5 m c t 0 (hi e)).trans (V_v0 m c (hi e))).trans
    ((congrArg (Ideal.ofBits .f32) ((by decide : ∀ e : Fin 64, lit0 (hi e) = lit0 (lo e)) e)).trans
      ((iblk5 m c t 0 (lo e)).trans (V_v0 m c (lo e))).symm)

theorem angles_iblk (c : Dev nD) (t : Fin cfg0.N) (r : Fin 256) :
    angles (iblk m c 4 t) (iblk m c 5 t) r = Layer.angles (args m c) (rowOf t r) :=
  funext fun e => congrArg₂ Spec.angle (iblk4 m c t r 0) (iblk5 m c t 0 (lo e))

variable {m}

theorem prow_iblk {c : Dev nD} (hg : Finite (args m c).g) (t : Fin cfg0.N) (r : Fin 256) :
    prow (proj (iblk m c 0 t) (iblk m c 1 t) (iblk m c 2 t) (iblk m c 3 t)) r = Layer.proj (args m c) (rowOf t r) := funext fun j => by
  refine (proj_apply (iblk m c 0 t) (iblk m c 1 t) (iblk m c 2 t) (iblk m c 3 t) ((gain_iblk m c t).symm ▸ hg) r j).trans ?_
  rw [row_iblk, gain_iblk, iblk3]
  exact congrArg (fun w => Spec.proj _ _ w _) (funext fun k => iblk2 m c t k j)

/-! ## The results -/

/-- Every row is a row of some point's. -/
theorem exists_row (n : Fin 16384) : ∃ (t : Fin cfg0.N) (r : Fin 256), rowOf t r = n :=
  ⟨⟨n.val / 256, by show n.val / 256 < 64; omega⟩, ⟨n.val % 256, Nat.mod_lt _ (by omega)⟩, Fin.ext (Nat.div_add_mod' n.val 256)⟩

theorem after6_apply {c : Dev nD} (hg : Finite (args m c).g) (t : Fin cfg0.N) (r : Fin 256) (h : Fin 8) (d : Fin 128) :
    (dats m 0 c).after 6 t (ix3 r h d) = Layer.queries (args m c) (rowOf t r) h d := by
  rw [after0_6]
  refine (queries_apply _ (iblk m c 4 t) (iblk m c 5 t) (repeats_iblk m c t) r h d).trans ?_
  rw [prow_iblk hg, angles_iblk]
  rfl

/-- Result 1: the layer's queries. -/
theorem queries_final {c : Dev nD} (hg : Finite (args m c).g) :
    (dats m 0 c).arrAt 6 cfg0.N = fun i => Layer.queries (args m c) (i 0) (i 1) (i 2) := by
  refine (dats m 0 c).arrAt_eq_of_cover 6 _ (fun t _ => funext fun y => ?_) fun i => ?_
  · obtain ⟨r, h, d, rfl⟩ : ∃ (r : Fin 256) (h : Fin 8) (d : Fin 128), y = ix3 r h d := ⟨y 0, y 1, y 2, ValueIdx.eq_ix3 y⟩
    exact (after6_apply hg t r h d).trans (congrArg (fun i : S16384x8x128.Idx => Layer.queries (args m c) (i 0) (i 1) (i 2)) (emb6 t r h d)).symm
  · obtain ⟨n, h, d, rfl⟩ : ∃ (n : Fin 16384) (h : Fin 8) (d : Fin 128), i = ix3 n h d := ⟨i 0, i 1, i 2, ValueIdx.eq_ix3 i⟩
    obtain ⟨t, r, rfl⟩ := exists_row n
    exact ⟨t, flush0_6 t, emb6 t r h d ▸ View.emb_mem_set _ _⟩

theorem after7_apply {c : Dev nD} (hg : Finite (args m c).g) (t : Fin cfg0.N) (r : Fin 256) (h : Fin 2) (d : Fin 128) :
    (dats m 0 c).after 7 t (ix3 r h d) = Layer.keys (args m c) (rowOf t r) h d := by
  rw [after0_7]
  refine (keys_apply _ (iblk m c 4 t) (iblk m c 5 t) (repeats_iblk m c t) r h d).trans ?_
  rw [prow_iblk hg, angles_iblk]
  rfl

/-- Result 2: the layer's keys. -/
theorem keys_final {c : Dev nD} (hg : Finite (args m c).g) :
    (dats m 0 c).arrAt 7 cfg0.N = fun i => Layer.keys (args m c) (i 0) (i 1) (i 2) := by
  refine (dats m 0 c).arrAt_eq_of_cover 7 _ (fun t _ => funext fun y => ?_) fun i => ?_
  · obtain ⟨r, h, d, rfl⟩ : ∃ (r : Fin 256) (h : Fin 2) (d : Fin 128), y = ix3 r h d := ⟨y 0, y 1, y 2, ValueIdx.eq_ix3 y⟩
    exact (after7_apply hg t r h d).trans (congrArg (fun i : S16384x2x128.Idx => Layer.keys (args m c) (i 0) (i 1) (i 2)) (emb7 t r h d)).symm
  · obtain ⟨n, h, d, rfl⟩ : ∃ (n : Fin 16384) (h : Fin 2) (d : Fin 128), i = ix3 n h d := ⟨i 0, i 1, i 2, ValueIdx.eq_ix3 i⟩
    obtain ⟨t, r, rfl⟩ := exists_row n
    exact ⟨t, flush0_7 t, emb7 t r h d ▸ View.emb_mem_set _ _⟩

theorem after8_apply {c : Dev nD} (hg : Finite (args m c).g) (t : Fin cfg0.N) (r : Fin 256) (h : Fin 2) (d : Fin 128) :
    (dats m 0 c).after 8 t (ix3 r h d) = Layer.values (args m c) (rowOf t r) h d := by
  rw [after0_8]
  refine (values_apply _ r h d).trans ?_
  rw [prow_iblk hg]
  rfl

/-- Result 3: the layer's values. -/
theorem values_final {c : Dev nD} (hg : Finite (args m c).g) :
    (dats m 0 c).arrAt 8 cfg0.N = fun i => Layer.values (args m c) (i 0) (i 1) (i 2) := by
  refine (dats m 0 c).arrAt_eq_of_cover 8 _ (fun t _ => funext fun y => ?_) fun i => ?_
  · obtain ⟨r, h, d, rfl⟩ : ∃ (r : Fin 256) (h : Fin 2) (d : Fin 128), y = ix3 r h d := ⟨y 0, y 1, y 2, ValueIdx.eq_ix3 y⟩
    exact (after8_apply hg t r h d).trans (congrArg (fun i : S16384x2x128.Idx => Layer.values (args m c) (i 0) (i 1) (i 2)) (emb8 t r h d)).symm
  · obtain ⟨n, h, d, rfl⟩ : ∃ (n : Fin 16384) (h : Fin 2) (d : Fin 128), i = ix3 n h d := ⟨i 0, i 1, i 2, ValueIdx.eq_ix3 i⟩
    obtain ⟨t, r, rfl⟩ := exists_row n
    exact ⟨t, flush0_8 t, emb8 t r h d ▸ View.emb_mem_set _ _⟩

theorem after9_apply {c : Dev nD} (hg : Finite (args m c).g) (t : Fin cfg0.N) (r : Fin 256) (k : Fin 4096) :
    (dats m 0 c).after 9 t (ix2 r k) = Layer.codes (args m c) (rowOf t r) k := by
  rw [after0_9]
  refine (codes_apply (iblk m c 0 t) (iblk m c 1 t) ((gain_iblk m c t).symm ▸ hg) r k).trans ?_
  rw [row_iblk, gain_iblk]
  rfl

/-- Result 4: the layer's codes. -/
theorem codes_final {c : Dev nD} (hg : Finite (args m c).g) :
    (dats m 0 c).arrAt 9 cfg0.N = fun i => Layer.codes (args m c) (i 0) (i 1) := by
  refine (dats m 0 c).arrAt_eq_of_cover 9 _ (fun t _ => funext fun y => ?_) fun i => ?_
  · obtain ⟨r, k, rfl⟩ : ∃ (r : Fin 256) (k : Fin 4096), y = ix2 r k := ⟨y 0, y 1, ValueIdx.eq_ix2 y⟩
    exact (after9_apply hg t r k).trans (congrArg (fun i : S16384x4096.Idx => Layer.codes (args m c) (i 0) (i 1)) (emb9 t r k)).symm
  · obtain ⟨n, k, rfl⟩ : ∃ (n : Fin 16384) (k : Fin 4096), i = ix2 n k := ⟨i 0, i 1, ValueIdx.eq_ix2 i⟩
    obtain ⟨t, r, rfl⟩ := exists_row n
    exact ⟨t, flush0_9 t, emb9 t r k ▸ View.emb_mem_set _ _⟩

theorem after10_apply {c : Dev nD} (hg : Finite (args m c).g) (t : Fin cfg0.N) (r : Fin 256) (k : Fin 1) :
    (dats m 0 c).after 10 t (ix2 r k) = Layer.scales (args m c) (rowOf t r) := by
  rw [after0_10]
  obtain rfl : k = 0 := Subsingleton.elim _ _
  refine (rowScale_apply (iblk m c 0 t) (iblk m c 1 t) ((gain_iblk m c t).symm ▸ hg) r).trans ?_
  rw [row_iblk, gain_iblk]
  rfl

/-- Result 5: the layer's scales. -/
theorem scales_final {c : Dev nD} (hg : Finite (args m c).g) :
    (dats m 0 c).arrAt 10 cfg0.N = fun i => Layer.scales (args m c) (i 0) := by
  refine (dats m 0 c).arrAt_eq_of_cover 10 _ (fun t _ => funext fun y => ?_) fun i => ?_
  · obtain ⟨r, k, rfl⟩ : ∃ (r : Fin 256) (k : Fin 1), y = ix2 r k := ⟨y 0, y 1, ValueIdx.eq_ix2 y⟩
    exact (after10_apply hg t r k).trans (congrArg (fun i : S16384x1.Idx => Layer.scales (args m c) (i 0)) (emb10 t r k)).symm
  · obtain ⟨n, k, rfl⟩ : ∃ (n : Fin 16384) (k : Fin 1), i = ix2 n k := ⟨i 0, i 1, ValueIdx.eq_ix2 i⟩
    obtain ⟨t, r, rfl⟩ := exists_row n
    exact ⟨t, flush0_10 t, emb10 t r k ▸ View.emb_mem_set _ _⟩

end Cert.KernelIdeal.Body

end
-- ==== Proof.RefRows.lean ====
/-
  The reference body's rows over the extended reals: each row of the array is normalised, scaled and clipped as Spec.lean has it.
-/
module

public import proofs.«01_k».proof.Proof.Gen.ReferenceIdeal.Frame
public import proofs.«01_k».proof.Proof.Spec
public import Idealize.ShloMosaic.Lib.Pipeline.ValueKit

@[expose] public section

set_option maxRecDepth 16384

noncomputable section

namespace Cert.ReferenceIdeal.Body

open Cert.ReferenceIdeal Cert.ReferenceIdeal.Gen
open Idealize.ShloMosaic

/-- A row of the input. -/
def row (x0 : Vec Ideal S16384x4096 .bf16) (r : Fin 16384) : Fin 4096 → EReal := fun k => x0 (ix2 r k)

/-- The gain. -/
def gain (x1 : Vec Ideal S1x4096 .f32) : Fin 4096 → EReal := fun k => x1 (ix2 0 k)

theorem ofBits_zero : Ideal.ofBits .f32 0x00000000#32 = 0 := by simp [Ideal.ofBits, Ideal.ieee]

theorem ofBits_bot : Ideal.ofBits .f32 0xFF800000#32 = (⊥ : EReal) := by simp [Ideal.ofBits, Ideal.ieee]

theorem ofBits_one : Ideal.ofBits .f32 0x3F800000#32 = 1 := by
  simp [Ideal.ofBits, Ideal.ieee, -EReal.coe_mul]; norm_num

/-- The normalised rows. -/
theorem norm_apply (x0 : Vec Ideal S16384x4096 .bf16) (x1 : Vec Ideal S1x4096 .f32) (r : Fin 16384) (k : Fin 4096) :
    k0_pay3 x0 x1 (ix2 r k) = Spec.norm (row x0 r) (gain x1) k := by
  pointwise [k0_pay3]
  rfl

/-- The rows' largest absolute values. -/
def peaks (h : FVec Ideal S16384x4096 .f32) : FVec Ideal S16384x1 .f32 :=
  shapeCast S16384x1 (multiReduction .maximumf [1] S16384 (absf h) 0xFF800000#32 reduces_S16384x4096_S16384 (.inl rfl) rfl) shapeCasts_S16384_S16384x1

/-- The exponents, of the rows' largest absolute values. -/
def exponents (a : FVec Ideal S16384x1 .f32) : FVec Ideal S16384x1 .f32 :=
  select (cmpf .oeq a (broadcast S16384x1 (Scalar.ofBits .f32 0x00000000#32))) (broadcast S16384x1 (Scalar.ofBits .f32 0x00000000#32))
    (maximumf (addf (floor (divf (log (mulf a (broadcast S16384x1 (Scalar.ofBits .f32 0x3B124925#32))))
      (log (broadcast S16384x1 (Scalar.ofBits .f32 0x40000000#32))))) (broadcast S16384x1 (Scalar.ofBits .f32 0x3F800000#32)))
      (broadcast S16384x1 (Scalar.ofBits .f32 0xC2FC0000#32)))

theorem exponents_eq (x0 : Vec Ideal S16384x4096 .bf16) (x1 : Vec Ideal S1x4096 .f32) :
    k0_pay4 x0 x1 = exponents (peaks (k0_pay3 x0 x1)) := rfl

theorem peaks_apply (h : FVec Ideal S16384x4096 .f32) (r : Fin 16384) : peaks h (ix2 r 0) = Spec.peak (fun k => h (ix2 r k)) := by
  pointwise [peaks]
  simp only [ofBits_bot]
  rfl

theorem exponents_apply (a : FVec Ideal S16384x1 .f32) (i : S16384x1.Idx) : exponents a i = Spec.exponent (a i) := by
  have e : exponents a i = Scalar.select (Ideal.cmp .oeq (a i) (Ideal.ofBits .f32 0x00000000#32)) (Ideal.ofBits .f32 0x00000000#32)
      (max (Ideal.liftRound Int.floor (Ideal.div (Ideal.log (Spec.range (a i))) (Ideal.log (Ideal.ofBits .f32 0x40000000#32))) + Ideal.ofBits .f32 0x3F800000#32)
        (Ideal.ofBits .f32 0xC2FC0000#32)) := rfl
  rw [e, ofBits_zero, ofBits_one]
  unfold Spec.exponent
  by_cases h0 : a i = 0
  · rw [if_pos h0, h0, show Ideal.cmp .oeq (0 : EReal) 0 = 1#1 by simp [Ideal.cmp]]
    rfl
  · rw [if_neg h0, show Ideal.cmp .oeq (a i) 0 = 0#1 by simp [Ideal.cmp, h0]]
    rfl

/-- The exponents. -/
theorem exponent_apply (x0 : Vec Ideal S16384x4096 .bf16) (x1 : Vec Ideal S1x4096 .f32) (r : Fin 16384) :
    k0_pay4 x0 x1 (ix2 r 0) = Spec.exponent (Spec.rowPeak (row x0 r) (gain x1)) := by
  rw [exponents_eq, exponents_apply, peaks_apply]
  simp only [norm_apply]
  rfl

theorem scales_eq (x0 : Vec Ideal S16384x4096 .bf16) (x1 : Vec Ideal S1x4096 .f32) : k0_pay5 x0 x1 = exp2 (k0_pay4 x0 x1) := rfl

theorem exp2_apply (v : FVec Ideal S16384x1 .f32) (i : S16384x1.Idx) : exp2 v i = Ideal.exp2 (v i) := rfl

/-- The scales. -/
theorem scale_apply (x0 : Vec Ideal S16384x4096 .bf16) (x1 : Vec Ideal S1x4096 .f32) (r : Fin 16384) :
    k0_pay5 x0 x1 (ix2 r 0) = Spec.scale (Spec.rowPeak (row x0 r) (gain x1)) := by
  rw [scales_eq, exp2_apply, exponent_apply]
  rfl

/-- The stored rows, of the normalised rows and the exponents. -/
def stored (h : FVec Ideal S16384x4096 .f32) (e : FVec Ideal S16384x1 .f32) : FVec Ideal S16384x4096 .fp8e4m3 :=
  truncf .fp8e4m3 (minimumf (broadcast S16384x4096 (Ideal.ofBits .f32 0x43E00000#32))
    (maximumf (broadcast S16384x4096 (Ideal.ofBits .f32 0xC3E00000#32))
      (mulf h (broadcastTo S16384x4096 (exp2 (subf (broadcast S16384x1 (Ideal.ofBits .f32 0x00000000#32)) e)) broadcasts_S16384x1_S16384x4096)))) bitsLt_fp8e4m3_f32

theorem stored_eq (x0 : Vec Ideal S16384x4096 .bf16) (x1 : Vec Ideal S1x4096 .f32) :
    k0_pay7 (Ideal.ofBits .f32 0x43E00000#32) (k0_pay6 x0 x1) = stored (k0_pay3 x0 x1) (k0_pay4 x0 x1) := rfl

theorem stored_apply (h : FVec Ideal S16384x4096 .f32) (e : FVec Ideal S16384x1 .f32) (r : Fin 16384) (k : Fin 4096) :
    stored h e (ix2 r k) = Spec.code (h (ix2 r k)) (Ideal.exp2 (0 - e (ix2 r 0))) := by
  pointwise [stored]
  rfl

/-- The stored rows. -/
theorem codes_apply (x0 : Vec Ideal S16384x4096 .bf16) (x1 : Vec Ideal S1x4096 .f32) (r : Fin 16384) (k : Fin 4096) :
    k0_pay7 (Ideal.ofBits .f32 0x43E00000#32) (k0_pay6 x0 x1) (ix2 r k) = Spec.codes (row x0 r) (gain x1) k := by
  rw [stored_eq, stored_apply, exponent_apply, norm_apply]
  rfl

/-- The projection. -/
theorem proj_apply (x0 : Vec Ideal S16384x4096 .bf16) (x1 : Vec Ideal S1x4096 .f32) (x2 : Vec Ideal S4096x1536 .fp8e4m3)
    (x3 : Vec Ideal S1x1536 .f32) (r : Fin 16384) (c : Fin 1536) :
    k0_pay8 (k0_pay5 x0 x1) (Ideal.ofBits .f32 0x43E00000#32) (k0_pay6 x0 x1) x2 x3 (ix2 r c)
      = Spec.proj (row x0 r) (gain x1) (fun k => x2 (ix2 k c)) (x3 (ix2 0 c)) := by
  pointwise [k0_pay8]
  simp only [codes_apply, scale_apply]
  rfl

end Cert.ReferenceIdeal.Body

end
-- ==== Proof.RefHeads.lean ====
/-
  The reference body's heads over the extended reals: each query and key head is the projection's head rotated by the row's
  angles, each value head the projection's head.
-/
module

public import proofs.«01_k».proof.Proof.RefRows

@[expose] public section

set_option maxRecDepth 16384

noncomputable section

namespace Cert.ReferenceIdeal.Body

open Cert.ReferenceIdeal Cert.ReferenceIdeal.Gen
open Idealize.ShloMosaic

/-- A row of the projection. -/
def prow (y : FVec Ideal S16384x1536 .f32) (r : Fin 16384) : Fin 1536 → EReal := fun c => y (ix2 r c)

/-- A row's angles, from its position and the frequencies. -/
def angles (x4 : Vec Ideal S16384x1 .i32) (x5 : Vec Ideal S1x64 .f32) (r : Fin 16384) : Fin 64 → EReal :=
  fun e => Spec.angle (x4 (ix2 r 0)) (x5 (ix2 0 e))

theorem angles_apply (x4 : Vec Ideal S16384x1 .i32) (x5 : Vec Ideal S1x64 .f32) (r : Fin 16384) (e : Fin 64) :
    k0_pay11 x4 x5 (ix2 r e) = angles x4 x5 r e := by
  pointwise [k0_pay11]
  rfl

/-- The cosines or sines, with a unit axis for the heads. -/
def spread (v : FVec Ideal S16384x64 .f32) : FVec Ideal S16384x1x64 .f32 := shapeCast S16384x1x64 v shapeCasts_S16384x64_S16384x1x64

theorem spread_apply (v : FVec Ideal S16384x64 .f32) (r : Fin 16384) (e : Fin 64) : spread v (ix3 r 0 e) = v (ix2 r e) := by
  pointwise [spread]

theorem cos_apply (x4 : Vec Ideal S16384x1 .i32) (x5 : Vec Ideal S1x64 .f32) (r : Fin 16384) (e : Fin 64) :
    k0_pay12 x4 x5 (ix3 r 0 e) = Ideal.cos (angles x4 x5 r e) := by
  rw [show k0_pay12 x4 x5 = spread (cos (k0_pay11 x4 x5)) from rfl, spread_apply, ← angles_apply]
  generalize k0_pay11 x4 x5 = v
  rfl

theorem sin_apply (x4 : Vec Ideal S16384x1 .i32) (x5 : Vec Ideal S1x64 .f32) (r : Fin 16384) (e : Fin 64) :
    k0_pay13 x4 x5 (ix3 r 0 e) = Ideal.sin (angles x4 x5 r e) := by
  rw [show k0_pay13 x4 x5 = spread (sin (k0_pay11 x4 x5)) from rfl, spread_apply, ← angles_apply]
  generalize k0_pay11 x4 x5 = v
  rfl

/-- The eight query heads of the projection, and -/
def heads8 (y : FVec Ideal S16384x1536 .f32) : FVec Ideal S16384x8x128 .f32 :=
  shapeCast S16384x8x128 (extractStridedSlice S16384x1024 ![0, 0] y slices_S16384x1536_o0_0_S16384x1024) shapeCasts_S16384x1024_S16384x8x128

/-- two heads from column `o`. -/
def heads2 (y : FVec Ideal S16384x1536 .f32) (o : Nat) (hs : S16384x1536.Slices ![0, o] S16384x256) : FVec Ideal S16384x2x128 .f32 :=
  shapeCast S16384x2x128 (extractStridedSlice S16384x256 ![0, o] y hs) shapeCasts_S16384x256_S16384x2x128

theorem heads8_apply (y : FVec Ideal S16384x1536 .f32) (r : Fin 16384) (h : Fin 8) (d : Fin 128) :
    heads8 y (ix3 r h d) = Spec.headAt (prow y r) (128 * h.val) d := by
  pointwise [heads8]
  exact congrArg (fun c => y (ix2 r c)) (Fin.ext ((by omega : h.val * 128 + d.val = 128 * h.val + d.val).trans (Nat.mod_eq_of_lt (by omega)).symm))

theorem heads2_apply (y : FVec Ideal S16384x1536 .f32) (o : Nat) (ho : o + 256 ≤ 1536) (hs) (r : Fin 16384) (h : Fin 2) (d : Fin 128) :
    heads2 y o hs (ix3 r h d) = Spec.headAt (prow y r) (o + 128 * h.val) d := by
  pointwise [heads2]
  exact congrArg (fun c => y (ix2 r c)) (Fin.ext ((by omega : o + (h.val * 128 + d.val) = o + 128 * h.val + d.val).trans (Nat.mod_eq_of_lt (by omega)).symm))

/-- Eight rotated heads. -/
def rotate8 (q : FVec Ideal S16384x8x128 .f32) (c s : FVec Ideal S16384x1x64 .f32) : FVec Ideal S16384x8x128 .bf16 :=
  have a : FVec Ideal S16384x8x64 .f32 := extractStridedSlice S16384x8x64 ![0, 0, 0] q slices_S16384x8x128_o0_0_0_S16384x8x64
  have b : FVec Ideal S16384x8x64 .f32 := extractStridedSlice S16384x8x64 ![0, 0, 64] q slices_S16384x8x128_o0_0_64_S16384x8x64
  have c : FVec Ideal S16384x8x64 .f32 := broadcastTo S16384x8x64 c broadcasts_S16384x1x64_S16384x8x64
  have s : FVec Ideal S16384x8x64 .f32 := broadcastTo S16384x8x64 s broadcasts_S16384x1x64_S16384x8x64
  truncf .bf16 (concatenate S16384x8x128 2 [⟨S16384x8x64, subf (mulf a c) (mulf b s)⟩, ⟨S16384x8x64, addf (mulf b c) (mulf a s)⟩] concatenates_S16384x8x64_S16384x8x64_S16384x8x128_d2) bitsLt_bf16_f32

/-- Two rotated heads. -/
def rotate2 (q : FVec Ideal S16384x2x128 .f32) (c s : FVec Ideal S16384x1x64 .f32) : FVec Ideal S16384x2x128 .bf16 :=
  have a : FVec Ideal S16384x2x64 .f32 := extractStridedSlice S16384x2x64 ![0, 0, 0] q slices_S16384x2x128_o0_0_0_S16384x2x64
  have b : FVec Ideal S16384x2x64 .f32 := extractStridedSlice S16384x2x64 ![0, 0, 64] q slices_S16384x2x128_o0_0_64_S16384x2x64
  have c : FVec Ideal S16384x2x64 .f32 := broadcastTo S16384x2x64 c broadcasts_S16384x1x64_S16384x2x64
  have s : FVec Ideal S16384x2x64 .f32 := broadcastTo S16384x2x64 s broadcasts_S16384x1x64_S16384x2x64
  truncf .bf16 (concatenate S16384x2x128 2 [⟨S16384x2x64, subf (mulf a c) (mulf b s)⟩, ⟨S16384x2x64, addf (mulf b c) (mulf a s)⟩] concatenates_S16384x2x64_S16384x2x64_S16384x2x128_d2) bitsLt_bf16_f32

theorem rotate8_apply (q : FVec Ideal S16384x8x128 .f32) (c s : FVec Ideal S16384x1x64 .f32) (a : Fin 64 → EReal) (r : Fin 16384)
    (hc : ∀ e, c (ix3 r 0 e) = Ideal.cos (a e)) (hs : ∀ e, s (ix3 r 0 e) = Ideal.sin (a e)) (h : Fin 8) (d : Fin 128) :
    rotate8 q c s (ix3 r h d) = Spec.rotate (fun d => q (ix3 r h d)) a d := by
  pointwise [rotate8]
  unfold Spec.rotate
  by_cases hd : d.val < 64
  · have e : (⟨64 + d.val, by omega⟩ : Fin 128) = ⟨d.val + 64, by omega⟩ := Fin.ext (Nat.add_comm _ _)
    rw [dif_pos hd, dif_pos hd, hc, hs, e]
    rfl
  · have e : (⟨64 + (d.val - 64), by omega⟩ : Fin 128) = d := Fin.ext (by simp only; omega)
    rw [dif_neg hd, dif_neg hd, hc, hs, e]
    rfl

theorem rotate2_apply (q : FVec Ideal S16384x2x128 .f32) (c s : FVec Ideal S16384x1x64 .f32) (a : Fin 64 → EReal) (r : Fin 16384)
    (hc : ∀ e, c (ix3 r 0 e) = Ideal.cos (a e)) (hs : ∀ e, s (ix3 r 0 e) = Ideal.sin (a e)) (h : Fin 2) (d : Fin 128) :
    rotate2 q c s (ix3 r h d) = Spec.rotate (fun d => q (ix3 r h d)) a d := by
  pointwise [rotate2]
  unfold Spec.rotate
  by_cases hd : d.val < 64
  · have e : (⟨64 + d.val, by omega⟩ : Fin 128) = ⟨d.val + 64, by omega⟩ := Fin.ext (Nat.add_comm _ _)
    rw [dif_pos hd, dif_pos hd, hc, hs, e]
    rfl
  · have e : (⟨64 + (d.val - 64), by omega⟩ : Fin 128) = d := Fin.ext (by simp only; omega)
    rw [dif_neg hd, dif_neg hd, hc, hs, e]
    rfl

/-- The query array. -/
theorem queries_apply (v35 : FVec Ideal S16384x1 .f32) (k : EReal) (v42 : FVec Ideal S16384x4096 .f32) (x2 : Vec Ideal S4096x1536 .fp8e4m3)
    (x3 : Vec Ideal S1x1536 .f32) (x4 : Vec Ideal S16384x1 .i32) (x5 : Vec Ideal S1x64 .f32) (r : Fin 16384) (h : Fin 8) (d : Fin 128) :
    k0_pay14 v35 k v42 x2 x3 x4 x5 (ix3 r h d)
      = Spec.rotate (Spec.headAt (prow (k0_pay8 v35 k v42 x2 x3) r) (128 * h.val)) (angles x4 x5 r) d := by
  rw [show k0_pay14 v35 k v42 x2 x3 x4 x5 = rotate8 (heads8 (k0_pay8 v35 k v42 x2 x3)) (k0_pay12 x4 x5) (k0_pay13 x4 x5) from rfl,
    rotate8_apply _ _ _ (angles x4 x5 r) r (cos_apply x4 x5 r) (sin_apply x4 x5 r)]
  simp only [heads8_apply]

/-- The key array. -/
theorem keys_apply (v35 : FVec Ideal S16384x1 .f32) (k : EReal) (v42 : FVec Ideal S16384x4096 .f32) (x2 : Vec Ideal S4096x1536 .fp8e4m3)
    (x3 : Vec Ideal S1x1536 .f32) (x4 : Vec Ideal S16384x1 .i32) (x5 : Vec Ideal S1x64 .f32) (r : Fin 16384) (h : Fin 2) (d : Fin 128) :
    k0_pay1 (k0_pay12 x4 x5) (k0_pay13 x4 x5) (k0_pay15 v35 k v42 x2 x3) (k0_pay16 v35 k v42 x2 x3) (k0_pay17 v35 k v42 x2 x3 x4 x5) (ix3 r h d)
      = Spec.rotate (Spec.headAt (prow (k0_pay8 v35 k v42 x2 x3) r) (1024 + 128 * h.val)) (angles x4 x5 r) d := by
  rw [show k0_pay1 (k0_pay12 x4 x5) (k0_pay13 x4 x5) (k0_pay15 v35 k v42 x2 x3) (k0_pay16 v35 k v42 x2 x3) (k0_pay17 v35 k v42 x2 x3 x4 x5)
      = rotate2 (heads2 (k0_pay8 v35 k v42 x2 x3) 1024 slices_S16384x1536_o0_1024_S16384x256) (k0_pay12 x4 x5) (k0_pay13 x4 x5) from rfl,
    rotate2_apply _ _ _ (angles x4 x5 r) r (cos_apply x4 x5 r) (sin_apply x4 x5 r)]
  simp only [heads2_apply _ _ (by omega : 1024 + 256 ≤ 1536)]

/-- The value array. -/
theorem values_apply (v35 : FVec Ideal S16384x1 .f32) (k : EReal) (v42 : FVec Ideal S16384x4096 .f32) (x2 : Vec Ideal S4096x1536 .fp8e4m3)
    (x3 : Vec Ideal S1x1536 .f32) (r : Fin 16384) (h : Fin 2) (d : Fin 128) :
    k0_pay2 (k0_pay10 v35 k v42 x2 x3) (ix3 r h d) = Spec.headAt (prow (k0_pay8 v35 k v42 x2 x3) r) (1280 + 128 * h.val) d := by
  rw [← heads2_apply (k0_pay8 v35 k v42 x2 x3) 1280 (by omega) slices_S16384x1536_o0_1280_S16384x256,
    show k0_pay2 (k0_pay10 v35 k v42 x2 x3)
      = truncf .bf16 (heads2 (k0_pay8 v35 k v42 x2 x3) 1280 slices_S16384x1536_o0_1280_S16384x256) bitsLt_bf16_f32 from rfl]
  generalize heads2 (k0_pay8 v35 k v42 x2 x3) 1280 slices_S16384x1536_o0_1280_S16384x256 = v
  rfl

end Cert.ReferenceIdeal.Body

end
-- ==== Proof.RefArrays.lean ====
/-
  The reference's five result arrays after its run: its one grid point reads the whole arrays and writes the whole results,
  the layer's functions of them.
-/
module

public import proofs.«01_k».proof.Proof.RefHeads
public import proofs.«01_k».proof.Proof.Layer

@[expose] public section

set_option maxRecDepth 16384

noncomputable section

namespace Cert.ReferenceIdeal.Body

open Cert.ReferenceIdeal Cert.ReferenceIdeal.Gen
open Idealize.ShloMosaic Idealize.ShloMosaic.TcCoe
open Idealize.ShloMosaic.Pipeline (Dat Cfg Window)

variable (m : (ℓ : Loc nD τ sig) → Buf (Elt Ideal) ℓ)

/-- The arrays the layer reads, as the run finds them. -/
def args (c : Dev nD) : Layer.Args where
  x r k := V m c main_v1 (ix2 r k)
  g k := V m c main_v2 (ix2 (0 : Fin 1) k)
  w k j := V m c main_arg2 (ix2 k j)
  s j := V m c main_v3 (ix2 (0 : Fin 1) j)
  p r := V m c main_v4 (ix2 r (0 : Fin 1))
  f e := V m c main_v0 (ix2 (0 : Fin 1) e)

/-- The one grid point. -/
def t₀ : Fin cfg0.N := ⟨0, by decide⟩

theorem iblk0 (c : Dev nD) : iblk m c 0 t₀ = V m c main_v1 := by
  have hz : (fun a => (win0_0.index t₀) a * main_v1.ty.shape.size a) = fun _ => 0 := funext fun a => by fin_cases a <;> decide
  exact Memref.read_access_unit_zero (Elt Ideal) main_v1 hz (fun a => by fin_cases a <;> decide) (V m c main_v1)

theorem iblk1 (c : Dev nD) : iblk m c 1 t₀ = V m c main_v2 := by
  have hz : (fun a => (win0_1.index t₀) a * main_v2.ty.shape.size a) = fun _ => 0 := funext fun a => by fin_cases a <;> decide
  exact Memref.read_access_unit_zero (Elt Ideal) main_v2 hz (fun a => by fin_cases a <;> decide) (V m c main_v2)

theorem iblk2 (c : Dev nD) : iblk m c 2 t₀ = V m c main_arg2 := by
  have hz : (fun a => (win0_2.index t₀) a * main_arg2.ty.shape.size a) = fun _ => 0 := funext fun a => by fin_cases a <;> decide
  exact Memref.read_access_unit_zero (Elt Ideal) main_arg2 hz (fun a => by fin_cases a <;> decide) (V m c main_arg2)

theorem iblk3 (c : Dev nD) : iblk m c 3 t₀ = V m c main_v3 := by
  have hz : (fun a => (win0_3.index t₀) a * main_v3.ty.shape.size a) = fun _ => 0 := funext fun a => by fin_cases a <;> decide
  exact Memref.read_access_unit_zero (Elt Ideal) main_v3 hz (fun a => by fin_cases a <;> decide) (V m c main_v3)

theorem iblk4 (c : Dev nD) : iblk m c 4 t₀ = V m c main_v4 := by
  have hz : (fun a => (win0_4.index t₀) a * main_v4.ty.shape.size a) = fun _ => 0 := funext fun a => by fin_cases a <;> decide
  exact Memref.read_access_unit_zero (Elt Ideal) main_v4 hz (fun a => by fin_cases a <;> decide) (V m c main_v4)

theorem iblk5 (c : Dev nD) : iblk m c 5 t₀ = V m c main_v0 := by
  have hz : (fun a => (win0_5.index t₀) a * main_v0.ty.shape.size a) = fun _ => 0 := funext fun a => by fin_cases a <;> decide
  exact Memref.read_access_unit_zero (Elt Ideal) main_v0 hz (fun a => by fin_cases a <;> decide) (V m c main_v0)

theorem zero2 : (![0, 0] : Fin 2 → Nat) = fun _ => 0 := funext fun a => by fin_cases a <;> rfl

theorem zero3 : (![0, 0, 0] : Fin 3 → Nat) = fun _ => 0 := funext fun a => by fin_cases a <;> rfl

variable (x0 : Vec Ideal S16384x4096 .bf16) (x1 : Vec Ideal S1x4096 .f32) (x2 : Vec Ideal S4096x1536 .fp8e4m3)
  (x3 : Vec Ideal S1x1536 .f32) (x4 : Vec Ideal S16384x1 .i32) (x5 : Vec Ideal S1x64 .f32)

theorem pay18_eq : k0_pay18 x0 x1 x2 x3 x4 x5 = k0_pay5 x0 x1 := by
  unfold k0_pay18
  rw [View.ld_unit_zero zero2, View.ld_unit_zero zero2]

theorem pay19_eq : k0_pay19 x0 x1 x2 x3 x4 x5 = k0_pay6 x0 x1 := by
  unfold k0_pay19
  rw [View.ld_unit_zero zero2, View.ld_unit_zero zero2]

/-- The projected rows, as the heads read them. -/
abbrev projected : FVec Ideal S16384x1536 .f32 := k0_pay8 (k0_pay5 x0 x1) (Ideal.ofBits .f32 0x43E00000#32) (k0_pay6 x0 x1) x2 x3

theorem out6_apply (r : Fin 16384) (h : Fin 8) (d : Fin 128) : out0_6 x0 x1 x2 x3 x4 x5 (ix3 r h d)
    = Spec.rotate (Spec.headAt (prow (projected x0 x1 x2 x3) r) (128 * h.val)) (angles x4 x5 r) d := by
  unfold out0_6
  rw [View.canon_unit_zero zero3, pay18_eq, pay19_eq, View.ld_unit_zero zero2, View.ld_unit_zero zero2, View.ld_unit_zero zero2,
    View.ld_unit_zero zero2]
  exact queries_apply _ _ _ x2 x3 x4 x5 r h d

theorem out7_apply (r : Fin 16384) (h : Fin 2) (d : Fin 128) : out0_7 x0 x1 x2 x3 x4 x5 (ix3 r h d)
    = Spec.rotate (Spec.headAt (prow (projected x0 x1 x2 x3) r) (1024 + 128 * h.val)) (angles x4 x5 r) d := by
  unfold out0_7
  rw [View.canon_unit_zero zero3, pay18_eq, pay19_eq, View.ld_unit_zero zero2, View.ld_unit_zero zero2, View.ld_unit_zero zero2,
    View.ld_unit_zero zero2]
  exact keys_apply _ _ _ x2 x3 x4 x5 r h d

theorem out8_apply (r : Fin 16384) (h : Fin 2) (d : Fin 128) : out0_8 x0 x1 x2 x3 x4 x5 (ix3 r h d)
    = Spec.headAt (prow (projected x0 x1 x2 x3) r) (1280 + 128 * h.val) d := by
  unfold out0_8
  rw [View.canon_unit_zero zero3, pay18_eq, pay19_eq, View.ld_unit_zero zero2, View.ld_unit_zero zero2]
  exact values_apply _ _ _ x2 x3 r h d

theorem out9_apply (r : Fin 16384) (k : Fin 4096) : out0_9 x0 x1 x2 x3 x4 x5 (ix2 r k) = Spec.codes (row x0 r) (gain x1) k := by
  unfold out0_9
  rw [View.canon_unit_zero zero2, pay19_eq]
  exact codes_apply x0 x1 r k

theorem out10_apply (r : Fin 16384) : out0_10 x0 x1 x2 x3 x4 x5 (ix2 r 0) = Spec.scale (Spec.rowPeak (row x0 r) (gain x1)) := by
  unfold out0_10
  rw [View.canon_unit_zero zero2, pay18_eq]
  exact scale_apply x0 x1 r

theorem prow_projected (r : Fin 16384) : prow (projected x0 x1 x2 x3) r
    = fun c => Spec.proj (row x0 r) (gain x1) (fun k => x2 (ix2 k c)) (x3 (ix2 0 c)) :=
  funext fun c => proj_apply x0 x1 x2 x3 r c

theorem final6 (c : Dev nD) : (dats m 0 c).arrAt 6 cfg0.N
    = out0_6 (V m c main_v1) (V m c main_v2) (V m c main_arg2) (V m c main_v3) (V m c main_v4) (V m c main_v0) := by
  have ho : ((cfg0.win ((6 : Fin 11) : Fin cfg0.W)).blk t₀).view.read (Elt Ideal) ((dats m 0 c).arrAt 6 cfg0.N) = (dats m 0 c).flushed 6 t₀ := by
    rw [show cfg0.N = (t₀ : Fin cfg0.N).val + 1 from rfl, (dats m 0 c).arrAt_succ 6 t₀,
      show (cfg0.win 6).flush t₀ = true from by decide, if_pos rfl]
    exact View.read_write_univ _ _
  have hz : (fun a => (win0_6.index t₀) a * main_v5_0.ty.shape.size a) = fun _ => 0 := funext fun a => by fin_cases a <;> decide
  rw [← iblk0 m c, ← iblk1 m c, ← iblk2 m c, ← iblk3 m c, ← iblk4 m c, ← iblk5 m c]
  refine ((Memref.read_access_unit_zero (Elt Ideal) main_v5_0 hz (fun a => by fin_cases a <;> decide) _).symm.trans ho).trans ?_
  show (cfg0.win 6).cut _ ((dats m 0 c).after 6 t₀) = _
  rw [after0_6]
  rfl

theorem final7 (c : Dev nD) : (dats m 0 c).arrAt 7 cfg0.N
    = out0_7 (V m c main_v1) (V m c main_v2) (V m c main_arg2) (V m c main_v3) (V m c main_v4) (V m c main_v0) := by
  have ho : ((cfg0.win ((7 : Fin 11) : Fin cfg0.W)).blk t₀).view.read (Elt Ideal) ((dats m 0 c).arrAt 7 cfg0.N) = (dats m 0 c).flushed 7 t₀ := by
    rw [show cfg0.N = (t₀ : Fin cfg0.N).val + 1 from rfl, (dats m 0 c).arrAt_succ 7 t₀,
      show (cfg0.win 7).flush t₀ = true from by decide, if_pos rfl]
    exact View.read_write_univ _ _
  have hz : (fun a => (win0_7.index t₀) a * main_v5_1.ty.shape.size a) = fun _ => 0 := funext fun a => by fin_cases a <;> decide
  rw [← iblk0 m c, ← iblk1 m c, ← iblk2 m c, ← iblk3 m c, ← iblk4 m c, ← iblk5 m c]
  refine ((Memref.read_access_unit_zero (Elt Ideal) main_v5_1 hz (fun a => by fin_cases a <;> decide) _).symm.trans ho).trans ?_
  show (cfg0.win 7).cut _ ((dats m 0 c).after 7 t₀) = _
  rw [after0_7]
  rfl

theorem final8 (c : Dev nD) : (dats m 0 c).arrAt 8 cfg0.N
    = out0_8 (V m c main_v1) (V m c main_v2) (V m c main_arg2) (V m c main_v3) (V m c main_v4) (V m c main_v0) := by
  have ho : ((cfg0.win ((8 : Fin 11) : Fin cfg0.W)).blk t₀).view.read (Elt Ideal) ((dats m 0 c).arrAt 8 cfg0.N) = (dats m 0 c).flushed 8 t₀ := by
    rw [show cfg0.N = (t₀ : Fin cfg0.N).val + 1 from rfl, (dats m 0 c).arrAt_succ 8 t₀,
      show (cfg0.win 8).flush t₀ = true from by decide, if_pos rfl]
    exact View.read_write_univ _ _
  have hz : (fun a => (win0_8.index t₀) a * main_v5_2.ty.shape.size a) = fun _ => 0 := funext fun a => by fin_cases a <;> decide
  rw [← iblk0 m c, ← iblk1 m c, ← iblk2 m c, ← iblk3 m c, ← iblk4 m c, ← iblk5 m c]
  refine ((Memref.read_access_unit_zero (Elt Ideal) main_v5_2 hz (fun a => by fin_cases a <;> decide) _).symm.trans ho).trans ?_
  show (cfg0.win 8).cut _ ((dats m 0 c).after 8 t₀) = _
  rw [after0_8]
  rfl

theorem final9 (c : Dev nD) : (dats m 0 c).arrAt 9 cfg0.N
    = out0_9 (V m c main_v1) (V m c main_v2) (V m c main_arg2) (V m c main_v3) (V m c main_v4) (V m c main_v0) := by
  have ho : ((cfg0.win ((9 : Fin 11) : Fin cfg0.W)).blk t₀).view.read (Elt Ideal) ((dats m 0 c).arrAt 9 cfg0.N) = (dats m 0 c).flushed 9 t₀ := by
    rw [show cfg0.N = (t₀ : Fin cfg0.N).val + 1 from rfl, (dats m 0 c).arrAt_succ 9 t₀,
      show (cfg0.win 9).flush t₀ = true from by decide, if_pos rfl]
    exact View.read_write_univ _ _
  have hz : (fun a => (win0_9.index t₀) a * main_v5_3.ty.shape.size a) = fun _ => 0 := funext fun a => by fin_cases a <;> decide
  rw [← iblk0 m c, ← iblk1 m c, ← iblk2 m c, ← iblk3 m c, ← iblk4 m c, ← iblk5 m c]
  refine ((Memref.read_access_unit_zero (Elt Ideal) main_v5_3 hz (fun a => by fin_cases a <;> decide) _).symm.trans ho).trans ?_
  show (cfg0.win 9).cut _ ((dats m 0 c).after 9 t₀) = _
  rw [after0_9]
  rfl

theorem final10 (c : Dev nD) : (dats m 0 c).arrAt 10 cfg0.N
    = out0_10 (V m c main_v1) (V m c main_v2) (V m c main_arg2) (V m c main_v3) (V m c main_v4) (V m c main_v0) := by
  have ho : ((cfg0.win ((10 : Fin 11) : Fin cfg0.W)).blk t₀).view.read (Elt Ideal) ((dats m 0 c).arrAt 10 cfg0.N) = (dats m 0 c).flushed 10 t₀ := by
    rw [show cfg0.N = (t₀ : Fin cfg0.N).val + 1 from rfl, (dats m 0 c).arrAt_succ 10 t₀,
      show (cfg0.win 10).flush t₀ = true from by decide, if_pos rfl]
    exact View.read_write_univ _ _
  have hz : (fun a => (win0_10.index t₀) a * main_v5_4.ty.shape.size a) = fun _ => 0 := funext fun a => by fin_cases a <;> decide
  rw [← iblk0 m c, ← iblk1 m c, ← iblk2 m c, ← iblk3 m c, ← iblk4 m c, ← iblk5 m c]
  refine ((Memref.read_access_unit_zero (Elt Ideal) main_v5_4 hz (fun a => by fin_cases a <;> decide) _).symm.trans ho).trans ?_
  show (cfg0.win 10).cut _ ((dats m 0 c).after 10 t₀) = _
  rw [after0_10]
  rfl

/-- Result 1: the layer's queries. -/
theorem queries_final (c : Dev nD) (r : Fin 16384) (h : Fin 8) (d : Fin 128) : (dats m 0 c).arrAt 6 cfg0.N (ix3 r h d) = Layer.queries (args m c) r h d := by
  rw [final6, out6_apply, prow_projected]
  rfl

/-- Result 2: the layer's keys. -/
theorem keys_final (c : Dev nD) (r : Fin 16384) (h : Fin 2) (d : Fin 128) : (dats m 0 c).arrAt 7 cfg0.N (ix3 r h d) = Layer.keys (args m c) r h d := by
  rw [final7, out7_apply, prow_projected]
  rfl

/-- Result 3: the layer's values. -/
theorem values_final (c : Dev nD) (r : Fin 16384) (h : Fin 2) (d : Fin 128) : (dats m 0 c).arrAt 8 cfg0.N (ix3 r h d) = Layer.values (args m c) r h d := by
  rw [final8, out8_apply, prow_projected]
  rfl

/-- Result 4: the layer's codes. -/
theorem codes_final (c : Dev nD) (r : Fin 16384) (k : Fin 4096) : (dats m 0 c).arrAt 9 cfg0.N (ix2 r k) = Layer.codes (args m c) r k := by
  rw [final9, out9_apply]
  rfl

/-- Result 5: the layer's scales. -/
theorem scales_final (c : Dev nD) (r : Fin 16384) : (dats m 0 c).arrAt 10 cfg0.N (ix2 r (0 : Fin 1)) = Layer.scales (args m c) r := by
  rw [final10, out10_apply]
  rfl

end Cert.ReferenceIdeal.Body

end
-- ==== Proof.RefHost.lean ====
/-
  What ReferenceIdeal's host operations leave in the arrays its kernel reads: the arguments reshaped, and the table of frequencies.
-/
module

public import proofs.«01_k».proof.Proof.Gen.ReferenceIdeal.Frame
public import Idealize.ShloMosaic.Lib.Pipeline.ValueKit

@[expose] public section

set_option maxRecDepth 16384

noncomputable section

namespace Cert.ReferenceIdeal.Body

open Cert.ReferenceIdeal Cert.ReferenceIdeal.Gen
open Idealize.ShloMosaic Idealize.ShloMosaic.TcCoe

variable (m : (ℓ : Loc nD τ sig) → Buf (Elt Ideal) ℓ)

/-- The rows: the input reshaped. -/
theorem V_v1 (c : Dev nD) (i : S16384x4096.Idx) : V m c main_v1 i = shapeCast S16384x4096 (m ((c.tc : Thread nD τ).loc main_arg0)) shapeCasts_S2x8192x4096_S16384x4096 i := by
  unfold_abbrev_sides
  after_results
  rfl

/-- The gain: the argument as one row. -/
theorem V_v2 (c : Dev nD) (i : S1x4096.Idx) : V m c main_v2 i = shapeCast S1x4096 (m ((c.tc : Thread nD τ).loc main_arg1)) shapeCasts_S4096_S1x4096 i := by
  unfold_abbrev_sides
  after_results
  rfl

/-- The column scales as one row. -/
theorem V_v3 (c : Dev nD) (i : S1x1536.Idx) : V m c main_v3 i = shapeCast S1x1536 (m ((c.tc : Thread nD τ).loc main_arg3)) shapeCasts_S1536_S1x1536 i := by
  unfold_abbrev_sides
  after_results
  rfl

/-- The positions as one column. -/
theorem V_v4 (c : Dev nD) (i : S16384x1.Idx) : V m c main_v4 i = shapeCast S16384x1 (m ((c.tc : Thread nD τ).loc main_arg4)) shapeCasts_S2x8192_S16384x1 i := by
  unfold_abbrev_sides
  after_results
  rfl

/-- The frequencies: the literal table as one row. -/
theorem V_v0 (c : Dev nD) (e : Fin 64) : V m c main_v0 (ix2 (0 : Fin 1) e) = Ideal.ofBits .f32 (lit0 e) := by
  unfold_abbrev_sides
  after_results
  refine (broadcastInDim_apply _ _ _ _ (ix1 e) fun a => ?_).trans
    (congrArg (fun j => Ideal.ofBits .f32 (lit0 j)) (Fin.ext (Shape.rowMajor_val_one (ix1 e))))
  fin_cases a
  rfl

end Cert.ReferenceIdeal.Body

end
-- ==== Proof.Algebraic.lean ====
/-
  The value claim: from memories that agree on the arguments, the kernel and the reference end with equal results, because each
  ends with the layer's functions of the arrays its kernel reads and those arrays are the same reshapes of the arguments and
  the same frequencies.
-/
module

public import proofs.«01_k».proof.Defs
public import proofs.«01_k».proof.Proof.Arrays
public import proofs.«01_k».proof.Proof.RefArrays
public import proofs.«01_k».proof.Proof.RefHost
public import proofs.«01_k».proof.Proof.Gen.Pre_gain_is_finite

@[expose] public section

set_option maxRecDepth 16384

noncomputable section

namespace Cert.Proof

open Idealize.ShloMosaic Idealize.ShloMosaic.TcCoe Idealize.SL.Sem

/-- An absolute value at most the greatest finite one. -/
def Small (e : EReal) : Prop := max e (-e) ≤ Ideal.ofBits .f32 0x7F7FFFFF#32

/-- The precondition, read at an entry of its second argument. -/
theorem small_of_pre (a0 : FVec Ideal Pre_gain_is_finite.S2x8192x4096 .bf16) (a1 : FVec Ideal Pre_gain_is_finite.S4096 .f32)
    (a2 : FVec Ideal Pre_gain_is_finite.S4096x1536 .fp8e4m3) (a3 : FVec Ideal Pre_gain_is_finite.S1536 .f32) (a4 : IVec Pre_gain_is_finite.S2x8192 32)
    (h : Pre_gain_is_finite.fn a0 a1 a2 a3 a4 = fun _ => 1#1) (i : Pre_gain_is_finite.S4096.Idx) : Small (a1 i) := by
  have hi : Ideal.cmp .ole (max (a1 i : EReal) (-(a1 i : EReal))) (Ideal.ofBits .f32 0x7F7FFFFF#32) = 1#1 := congrFun h i
  by_contra hn
  unfold Small at hn
  have h0 : Ideal.cmp .ole (max (a1 i : EReal) (-(a1 i : EReal))) (Ideal.ofBits .f32 0x7F7FFFFF#32) = 0#1 :=
    congrArg BitVec.ofBool (decide_eq_false hn)
  rw [h0] at hi
  exact absurd hi (by decide)

/-- The precondition, read at the gain as the kernel reads it. -/
theorem gain_finite (m : (ℓ : Loc KernelIdeal.nD KernelIdeal.τ KernelIdeal.sig) → Buf (Elt Ideal) ℓ)
    (h : Pre_KernelIdeal_gain_is_finite m) (c : Dev KernelIdeal.nD) : KernelIdeal.Body.Finite (KernelIdeal.Body.args m c).g := fun k => by
  show Small (KernelIdeal.Gen.V m c KernelIdeal.main_v2 (ix2 (0 : Fin 1) k))
  rw [KernelIdeal.Body.V_v2]
  exact small_of_pre _ _ _ _ _ (h c) _

/-- The two programs' kernels read the same arrays. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    ReferenceIdeal.Body.args m' c = KernelIdeal.Body.args m c := by
  have ex : (ReferenceIdeal.Body.args m' c).x = (KernelIdeal.Body.args m c).x := funext fun r => funext fun k =>
    (ReferenceIdeal.Body.V_v1 m' c (ix2 r k)).trans ((congrArg (fun f => shapeCast KernelIdeal.S16384x4096 f KernelIdeal.Gen.shapeCasts_S2x8192x4096_S16384x4096 (ix2 r k)) h0).trans
      (KernelIdeal.Body.V_v1 m c (ix2 r k)).symm)
  have eg : (ReferenceIdeal.Body.args m' c).g = (KernelIdeal.Body.args m c).g := funext fun k =>
    (ReferenceIdeal.Body.V_v2 m' c (ix2 0 k)).trans ((congrArg (fun f => shapeCast KernelIdeal.S1x4096 f KernelIdeal.Gen.shapeCasts_S4096_S1x4096 (ix2 0 k)) h1).trans
      (KernelIdeal.Body.V_v2 m c (ix2 0 k)).symm)
  have ew : (ReferenceIdeal.Body.args m' c).w = (KernelIdeal.Body.args m c).w := funext fun k => funext fun j =>
    congrFun (((ReferenceIdeal.Gen.V_main_arg2 m' c).trans h2).trans (KernelIdeal.Gen.V_main_arg2 m c).symm) (ix2 k j)
  have es : (ReferenceIdeal.Body.args m' c).s = (KernelIdeal.Body.args m c).s := funext fun j =>
    (ReferenceIdeal.Body.V_v3 m' c (ix2 0 j)).trans ((congrArg (fun f => shapeCast KernelIdeal.S1x1536 f KernelIdeal.Gen.shapeCasts_S1536_S1x1536 (ix2 0 j)) h3).trans
      (KernelIdeal.Body.V_v3 m c (ix2 0 j)).symm)
  have ep : (ReferenceIdeal.Body.args m' c).p = (KernelIdeal.Body.args m c).p := funext fun r =>
    (ReferenceIdeal.Body.V_v4 m' c (ix2 r 0)).trans ((congrArg (fun f => shapeCast KernelIdeal.S16384x1 f KernelIdeal.Gen.shapeCasts_S2x8192_S16384x1 (ix2 r 0)) h4).trans
      (KernelIdeal.Body.V_v4 m c (ix2 r 0)).symm)
  have ef : (ReferenceIdeal.Body.args m' c).f = (KernelIdeal.Body.args m c).f := funext fun e =>
    (ReferenceIdeal.Body.V_v0 m' c e).trans ((congrArg (Ideal.ofBits .f32)
      ((by decide : ∀ e : Fin 64, ReferenceIdeal.lit0 e = KernelIdeal.lit0 (KernelIdeal.Body.lo e)) e)).trans
      (KernelIdeal.Body.V_v0 m c (KernelIdeal.Body.lo e)).symm)
  generalize ReferenceIdeal.Body.args m' c = A at *
  generalize KernelIdeal.Body.args m c = B at *
  cases A; cases B
  dsimp only at ex eg ew es ep ef
  subst ex eg ew es ep ef
  rfl

/-- The value claim. -/
theorem algebraic : algebraic_KernelIdeal_ReferenceIdeal_pre_gain_is_finite := by
  intro m g m' g' hpre hag
  have hg := fun c => gain_finite m hpre c
  have ha := fun c => args_eq m m' c (hag c).1 (hag c).2.1 (hag c).2.2.1 (hag c).2.2.2.1 (hag c).2.2.2.2
  refine ⟨fun c => (KernelIdeal.Body.dats m 0 c).arrAt 6 KernelIdeal.cfg0.N, fun c => (KernelIdeal.Body.dats m 0 c).arrAt 7 KernelIdeal.cfg0.N,
    fun c => (KernelIdeal.Body.dats m 0 c).arrAt 8 KernelIdeal.cfg0.N, fun c => (KernelIdeal.Body.dats m 0 c).arrAt 9 KernelIdeal.cfg0.N,
    fun c => (KernelIdeal.Body.dats m 0 c).arrAt 10 KernelIdeal.cfg0.N, ?_, ?_⟩
  · refine (θ_run _ _ _).mono (fun r h c => ?_) (θ_run_and (KernelIdeal.Body.run_main m g) (KernelIdeal.Body.unchanged m g))
    exact ⟨(h.1 c).1 6, (h.1 c).1 7, (h.1 c).1 8, (h.1 c).1 9, (h.1 c).1 10, h.2 c⟩
  · refine (θ_run _ _ _).mono (fun r h c => ?_) (θ_run_and (ReferenceIdeal.Gen.run_main m' g') (ReferenceIdeal.Gen.unchanged m' g'))
    refine ⟨((h.1 c).1 6).trans ?_, ((h.1 c).1 7).trans ?_, ((h.1 c).1 8).trans ?_, ((h.1 c).1 9).trans ?_, ((h.1 c).1 10).trans ?_, h.2 c⟩
    · refine Eq.trans (funext fun i => ?_) (KernelIdeal.Body.queries_final (hg c)).symm
      obtain ⟨n, h, d, rfl⟩ : ∃ (n : Fin 16384) (h : Fin 8) (d : Fin 128), i = ix3 n h d := ⟨i 0, i 1, i 2, ValueIdx.eq_ix3 i⟩
      exact (ReferenceIdeal.Body.queries_final m' c n h d).trans (congrArg (fun A => Layer.queries A n h d) (ha c))
    · refine Eq.trans (funext fun i => ?_) (KernelIdeal.Body.keys_final (hg c)).symm
      obtain ⟨n, h, d, rfl⟩ : ∃ (n : Fin 16384) (h : Fin 2) (d : Fin 128), i = ix3 n h d := ⟨i 0, i 1, i 2, ValueIdx.eq_ix3 i⟩
      exact (ReferenceIdeal.Body.keys_final m' c n h d).trans (congrArg (fun A => Layer.keys A n h d) (ha c))
    · refine Eq.trans (funext fun i => ?_) (KernelIdeal.Body.values_final (hg c)).symm
      obtain ⟨n, h, d, rfl⟩ : ∃ (n : Fin 16384) (h : Fin 2) (d : Fin 128), i = ix3 n h d := ⟨i 0, i 1, i 2, ValueIdx.eq_ix3 i⟩
      exact (ReferenceIdeal.Body.values_final m' c n h d).trans (congrArg (fun A => Layer.values A n h d) (ha c))
    · refine Eq.trans (funext fun i => ?_) (KernelIdeal.Body.codes_final (hg c)).symm
      obtain ⟨n, k, rfl⟩ : ∃ (n : Fin 16384) (k : Fin 4096), i = ix2 n k := ⟨i 0, i 1, ValueIdx.eq_ix2 i⟩
      exact (ReferenceIdeal.Body.codes_final m' c n k).trans (congrArg (fun A => Layer.codes A n k) (ha c))
    · refine Eq.trans (funext fun i => ?_) (KernelIdeal.Body.scales_final (hg c)).symm
      obtain ⟨n, k, rfl⟩ : ∃ (n : Fin 16384) (k : Fin 1), i = ix2 n k := ⟨i 0, i 1, ValueIdx.eq_ix2 i⟩
      obtain rfl : k = 0 := Subsingleton.elim _ _
      exact (ReferenceIdeal.Body.scales_final m' c n).trans (congrArg (fun A => Layer.scales A n) (ha c))

end Cert.Proof

end
-- ==== Proof.lean ====
/-
  The certificate's claim: the frames of the kernel as compiled, of the kernel over the extended reals and of the reference, and
  the equality of the kernel's five results with the reference's over the extended reals.
-/
module

public import proofs.«01_k».proof.Defs
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_gain_is_finite
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_gain_is_finite.Gen.facts,
  fun m g _ => Cert.Kernel.Body.frame m g,
  fun m g _ => Cert.KernelIdeal.Body.frame m g,
  fun m g _ => Cert.KernelIdeal.Body.frame m g,
  fun m g _ => Cert.ReferenceIdeal.Gen.frame m g,
  fun m g _ => Cert.ReferenceIdeal.Gen.frame m g,
  trivial, algebraic⟩

end Cert.Proof

end
